-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "log2e_scale" .f32 0x3E16C740#32 ((((Real.log 2) * (Real.sqrt 96))⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_v103) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x640x12x96 : Shape := ⟨4, ![3, 640, 12, 96]⟩
abbrev S3x12 : Shape := ⟨2, ![3, 12]⟩
abbrev S769x12x96 : Shape := ⟨3, ![769, 12, 96]⟩
abbrev S12 : Shape := ⟨1, ![12]⟩
abbrev S12x96 : Shape := ⟨2, ![12, 96]⟩
abbrev S3x12x96x640 : Shape := ⟨4, ![3, 12, 96, 640]⟩
abbrev S12x96x769 : Shape := ⟨3, ![12, 96, 769]⟩
abbrev S12x96x1 : Shape := ⟨3, ![12, 96, 1]⟩
abbrev S3x640x1152 : Shape := ⟨3, ![3, 640, 1152]⟩
abbrev S3x3x4x640 : Shape := ⟨4, ![3, 3, 4, 640]⟩
abbrev S1x4x96x640 : Shape := ⟨4, ![1, 4, 96, 640]⟩
abbrev S4x96x769 : Shape := ⟨3, ![4, 96, 769]⟩
abbrev S4x96x1 : Shape := ⟨3, ![4, 96, 1]⟩
abbrev S1x640x384 : Shape := ⟨3, ![1, 640, 384]⟩
abbrev S1x1x4x640 : Shape := ⟨4, ![1, 1, 4, 640]⟩
abbrev S128x128 : Shape := ⟨2, ![128, 128]⟩
abbrev S1x1x96x640 : Shape := ⟨4, ![1, 1, 96, 640]⟩
abbrev S96x640 : Shape := ⟨2, ![96, 640]⟩
abbrev S1x96x1 : Shape := ⟨3, ![1, 96, 1]⟩
abbrev S96x1 : Shape := ⟨2, ![96, 1]⟩
abbrev S640 : Shape := ⟨1, ![640]⟩
abbrev S1x640 : Shape := ⟨2, ![1, 640]⟩
abbrev S1x1x1x640 : Shape := ⟨4, ![1, 1, 1, 640]⟩
abbrev S1x1 : Shape := ⟨2, ![1, 1]⟩
abbrev S1 : Shape := ⟨1, ![1]⟩
abbrev S1x96x769 : Shape := ⟨3, ![1, 96, 769]⟩
abbrev S96x769 : Shape := ⟨2, ![96, 769]⟩
abbrev S96x128 : Shape := ⟨2, ![96, 128]⟩
abbrev S1x96x128 : Shape := ⟨3, ![1, 96, 128]⟩
abbrev S128x96 : Shape := ⟨2, ![128, 96]⟩
abbrev S1x128 : Shape := ⟨2, ![1, 128]⟩
abbrev S128x640 : Shape := ⟨2, ![128, 640]⟩
abbrev S128 : Shape := ⟨1, ![128]⟩
abbrev S128x1 : Shape := ⟨2, ![128, 1]⟩
abbrev S1x128x96 : Shape := ⟨3, ![1, 128, 96]⟩

abbrev nBuf : Space → Nat
  | .hbm => 20
  | .vmem => 22
  | .smem => 3
  | _ => 0

abbrev bufTy : (tb : Table) → Fin (tcTables nBuf tb) → BufTy
  | .hbm, ⟨0, _⟩ => ⟨S3x640x12x96, .bf16⟩
  | .hbm, ⟨1, _⟩ => ⟨S3x640x12x96, .fp8e4m3⟩
  | .hbm, ⟨2, _⟩ => ⟨S3x12, .f32⟩
  | .hbm, ⟨3, _⟩ => ⟨S3x640x12x96, .fp8e4m3⟩
  | .hbm, ⟨4, _⟩ => ⟨S3x12, .f32⟩
  | .hbm, ⟨5, _⟩ => ⟨S769x12x96, .fp8e4m3⟩
  | .hbm, ⟨6, _⟩ => ⟨S12, .f32⟩
  | .hbm, ⟨7, _⟩ => ⟨S12x96, .f32⟩
  | .hbm, ⟨8, _⟩ => ⟨S12x96, .f32⟩
  | .hbm, ⟨9, _⟩ => ⟨S3x12x96x640, .bf16⟩
  | .hbm, ⟨10, _⟩ => ⟨S3x12x96x640, .fp8e4m3⟩
  | .hbm, ⟨11, _⟩ => ⟨S3x12x96x640, .fp8e4m3⟩
  | .hbm, ⟨12, _⟩ => ⟨S12x96x769, .fp8e4m3⟩
  | .hbm, ⟨13, _⟩ => ⟨S12x96x1, .f32⟩
  | .hbm, ⟨14, _⟩ => ⟨S12x96x1, .f32⟩
  | .hbm, ⟨15, _⟩ => ⟨S3x640x1152, .bf16⟩
  | .hbm, ⟨16, _⟩ => ⟨S3x12x96x640, .fp8e4m3⟩
  | .hbm, ⟨17, _⟩ => ⟨S3x3x4x640, .f32⟩
  | .hbm, ⟨18, _⟩ => ⟨S3x12x96x640, .fp8e4m3⟩
  | .hbm, ⟨19, _⟩ => ⟨S3x3x4x640, .f32⟩
  | .local _ .vmem, ⟨0, _⟩ => ⟨S1x4x96x640, .bf16⟩
  | .local _ .vmem, ⟨1, _⟩ => ⟨S1x4x96x640, .bf16⟩
  | .local _ .vmem, ⟨2, _⟩ => ⟨S1x4x96x640, .fp8e4m3⟩
  | .local _ .vmem, ⟨3, _⟩ => ⟨S1x4x96x640, .fp8e4m3⟩
  | .local _ .vmem, ⟨4, _⟩ => ⟨S1x4x96x640, .fp8e4m3⟩
  | .local _ .vmem, ⟨5, _⟩ => ⟨S1x4x96x640, .fp8e4m3⟩
  | .local _ .vmem, ⟨6, _⟩ => ⟨S4x96x769, .fp8e4m3⟩
  | .local _ .vmem, ⟨7, _⟩ => ⟨S4x96x769, .fp8e4m3⟩
  | .local _ .vmem, ⟨8, _⟩ => ⟨S4x96x1, .f32⟩
  | .local _ .vmem, ⟨9, _⟩ => ⟨S4x96x1, .f32⟩
  | .local _ .vmem, ⟨10, _⟩ => ⟨S4x96x1, .f32⟩
  | .local _ .vmem, ⟨11, _⟩ => ⟨S4x96x1, .f32⟩
  | .local _ .vmem, ⟨12, _⟩ => ⟨S1x640x384, .bf16⟩
  | .local _ .vmem, ⟨13, _⟩ => ⟨S1x640x384, .bf16⟩
  | .local _ .vmem, ⟨14, _⟩ => ⟨S1x4x96x640, .fp8e4m3⟩
  | .local _ .vmem, ⟨15, _⟩ => ⟨S1x4x96x640, .fp8e4m3⟩
  | .local _ .vmem, ⟨16, _⟩ => ⟨S1x1x4x640, .f32⟩
  | .local _ .vmem, ⟨17, _⟩ => ⟨S1x1x4x640, .f32⟩
  | .local _ .vmem, ⟨18, _⟩ => ⟨S1x4x96x640, .fp8e4m3⟩
  | .local _ .vmem, ⟨19, _⟩ => ⟨S1x4x96x640, .fp8e4m3⟩
  | .local _ .vmem, ⟨20, _⟩ => ⟨S1x1x4x640, .f32⟩
  | .local _ .vmem, ⟨21, _⟩ => ⟨S1x1x4x640, .f32⟩
  | .local _ .smem, ⟨0, _⟩ => ⟨S3x12, .f32⟩
  | .local _ .smem, ⟨1, _⟩ => ⟨S3x12, .f32⟩
  | .local _ .smem, ⟨2, _⟩ => ⟨S12, .f32⟩
  | _, _ => ⟨S3x640x12x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![3, 3], ![false, false]⟩

def k0_off1 (i : grid0.Coords) (c0_i32 : BitVec 32) : Fin 2 → Nat :=
  let arg0 : BitVec 32 := BitVec.ofNat 32 (i 0).val
  let v246 : Index := Scalar.indexCast arg0
  let arg1 : BitVec 32 := BitVec.ofNat 32 (i 1).val
  let c4_i32 : BitVec 32 := 4#32
  let v5 : BitVec 32 := Scalar.muli arg1 c4_i32
  let v6 : BitVec 32 := Scalar.addi v5 c0_i32
  let v247 : Index := Scalar.indexCast v6
  ![v246.toNat, v247.toNat]
def k0_off2 (i : grid0.Coords) (c0_i32 : BitVec 32) : Fin 1 → Nat :=
  let arg1 : BitVec 32 := BitVec.ofNat 32 (i 1).val
  let c4_i32 : BitVec 32 := 4#32
  let v5 : BitVec 32 := Scalar.muli arg1 c4_i32
  let v6 : BitVec 32 := Scalar.addi v5 c0_i32
  let v252 : Index := Scalar.indexCast v6
  ![v252.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S3x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S3x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x96x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x96x640 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x96x640 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x96x769 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S4x96x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S4x96x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x640x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x96x640 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x4x640 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x96x640 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x4x640 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "log2e_scale" => some ((((Real.log 2) * (Real.sqrt 96))⁻¹ : ℝ) : EReal)
  | _ => none
-- ==== ReferenceIdeal.lean ====
abbrev S3x640x12x96 : Shape := ⟨4, ![3, 640, 12, 96]⟩
abbrev S3x12 : Shape := ⟨2, ![3, 12]⟩
abbrev S769x12x96 : Shape := ⟨3, ![769, 12, 96]⟩
abbrev S12 : Shape := ⟨1, ![12]⟩
abbrev S12x96 : Shape := ⟨2, ![12, 96]⟩
abbrev S1x12x96 : Shape := ⟨3, ![1, 12, 96]⟩
abbrev S2x12x96 : Shape := ⟨3, ![2, 12, 96]⟩
abbrev S2x1x1x12x96 : Shape := ⟨5, ![2, 1, 1, 12, 96]⟩
abbrev S1x3x640x12x96 : Shape := ⟨5, ![1, 3, 640, 12, 96]⟩
abbrev S2x3x640x12x96 : Shape := ⟨5, ![2, 3, 640, 12, 96]⟩
abbrev S_ : Shape := ⟨0, ![]⟩
abbrev S2x3x640x12 : Shape := ⟨4, ![2, 3, 640, 12]⟩
abbrev S2x3x640x12x1 : Shape := ⟨5, ![2, 3, 640, 12, 1]⟩
abbrev S1x3x640x12 : Shape := ⟨4, ![1, 3, 640, 12]⟩
abbrev S3x640x12 : Shape := ⟨3, ![3, 640, 12]⟩
abbrev S3x12x640x640 : Shape := ⟨4, ![3, 12, 640, 640]⟩
abbrev S12x769x3x640 : Shape := ⟨4, ![12, 769, 3, 640]⟩
abbrev S3x12x640x769 : Shape := ⟨4, ![3, 12, 640, 769]⟩
abbrev S640 : Shape := ⟨1, ![640]⟩
abbrev S640x1 : Shape := ⟨2, ![640, 1]⟩
abbrev S1x640 : Shape := ⟨2, ![1, 640]⟩
abbrev S640x640 : Shape := ⟨2, ![640, 640]⟩
abbrev S3x12x640x640x1 : Shape := ⟨5, ![3, 12, 640, 640, 1]⟩
abbrev S3x12x640 : Shape := ⟨3, ![3, 12, 640]⟩
abbrev S3x12x1 : Shape := ⟨3, ![3, 12, 1]⟩
abbrev S3x12x640x1 : Shape := ⟨4, ![3, 12, 640, 1]⟩
abbrev S1x12x1 : Shape := ⟨3, ![1, 12, 1]⟩
abbrev S3x12x96x640 : Shape := ⟨4, ![3, 12, 96, 640]⟩
abbrev S3x1x12x1 : Shape := ⟨4, ![3, 1, 12, 1]⟩
abbrev S3x640x1152 : Shape := ⟨3, ![3, 640, 1152]⟩
abbrev S3x3x4x640 : Shape := ⟨4, ![3, 3, 4, 640]⟩

abbrev nBuf : Space → Nat
  | .hbm => 148
  | .vmem => 9
  | .smem => 0
  | _ => 0

abbrev hbmTy0_0 (i : Nat) : BufTy := match i % 128 with
  | 0 => ⟨S3x640x12x96, .bf16⟩
  | 1 => ⟨S3x640x12x96, .fp8e4m3⟩
  | 2 => ⟨S3x12, .f32⟩
  | 3 => ⟨S3x640x12x96, .fp8e4m3⟩
  | 4 => ⟨S3x12, .f32⟩
  | 5 => ⟨S769x12x96, .fp8e4m3⟩
  | 6 => ⟨S12, .f32⟩
  | 7 => ⟨S12x96, .f32⟩
  | 8 => ⟨S12x96, .f32⟩
  | 9 => ⟨S3x640x12x96, .f32⟩
  | 10 => ⟨S1x12x96, .f32⟩
  | 11 => ⟨S1x12x96, .f32⟩
  | 12 => ⟨S2x12x96, .f32⟩
  | 13 => ⟨S2x1x1x12x96, .f32⟩
  | 14 => ⟨S1x3x640x12x96, .f32⟩
  | 15 => ⟨S2x3x640x12x96, .f32⟩
  | 16 => ⟨S2x3x640x12x96, .f32⟩
  | 17 => ⟨S2x3x640x12x96, .f32⟩
  | 18 => ⟨S2x3x640x12x96, .f32⟩
  | 19 => ⟨S_, .f32⟩
  | 20 => ⟨S2x3x640x12, .f32⟩
  | 21 => ⟨S_, .f32⟩
  | 22 => ⟨S2x3x640x12, .f32⟩
  | 23 => ⟨S2x3x640x12, .f32⟩
  | 24 => ⟨S_, .f32⟩
  | 25 => ⟨S2x3x640x12, .f32⟩
  | 26 => ⟨S2x3x640x12, .i1⟩
  | 27 => ⟨S_, .f32⟩
  | 28 => ⟨S2x3x640x12, .f32⟩
  | 29 => ⟨S2x3x640x12, .i1⟩
  | 30 => ⟨S2x3x640x12, .i1⟩
  | 31 => ⟨S2x3x640x12, .f32⟩
  | 32 => ⟨S_, .f32⟩
  | 33 => ⟨S_, .f32⟩
  | 34 => ⟨S2x3x640x12, .f32⟩
  | 35 => ⟨S2x3x640x12, .f32⟩
  | 36 => ⟨S2x3x640x12, .f32⟩
  | 37 => ⟨S_, .f32⟩
  | 38 => ⟨S2x3x640x12, .f32⟩
  | 39 => ⟨S2x3x640x12, .f32⟩
  | 40 => ⟨S_, .f32⟩
  | 41 => ⟨S_, .f32⟩
  | 42 => ⟨S2x3x640x12, .f32⟩
  | 43 => ⟨S2x3x640x12, .f32⟩
  | 44 => ⟨S_, .f32⟩
  | 45 => ⟨S2x3x640x12, .f32⟩
  | 46 => ⟨S2x3x640x12, .f32⟩
  | 47 => ⟨S2x3x640x12, .f32⟩
  | 48 => ⟨S_, .f32⟩
  | 49 => ⟨S2x3x640x12, .f32⟩
  | 50 => ⟨S2x3x640x12, .f32⟩
  | 51 => ⟨S2x3x640x12x1, .f32⟩
  | 52 => ⟨S2x3x640x12x96, .f32⟩
  | 53 => ⟨S2x3x640x12x96, .f32⟩
  | 54 => ⟨S2x3x640x12x96, .fp8e4m3⟩
  | 55 => ⟨S2x3x640x12x96, .f32⟩
  | 56 => ⟨S3x640x12x96, .f32⟩
  | 57 => ⟨S3x640x12x96, .bf16⟩
  | 58 => ⟨S769x12x96, .f32⟩
  | 59 => ⟨S1x3x640x12x96, .fp8e4m3⟩
  | 60 => ⟨S3x640x12x96, .fp8e4m3⟩
  | 61 => ⟨S1x3x640x12x96, .fp8e4m3⟩
  | 62 => ⟨S3x640x12x96, .fp8e4m3⟩
  | 63 => ⟨S1x3x640x12x96, .f32⟩
  | 64 => ⟨S3x640x12x96, .f32⟩
  | 65 => ⟨S1x3x640x12x96, .f32⟩
  | 66 => ⟨S3x640x12x96, .f32⟩
  | 67 => ⟨S1x3x640x12, .f32⟩
  | 68 => ⟨S3x640x12, .f32⟩
  | 69 => ⟨S1x3x640x12, .f32⟩
  | 70 => ⟨S3x640x12, .f32⟩
  | 71 => ⟨S3x12x640x640, .f32⟩
  | 72 => ⟨S12x769x3x640, .f32⟩
  | 73 => ⟨S3x12x640x769, .f32⟩
  | 74 => ⟨S640, .i32⟩
  | 75 => ⟨S640x1, .i32⟩
  | 76 => ⟨S1x640, .i32⟩
  | 77 => ⟨S640x640, .i32⟩
  | 78 => ⟨S640x640, .i32⟩
  | 79 => ⟨S640x640, .i32⟩
  | 80 => ⟨S_, .i32⟩
  | 81 => ⟨S_, .i32⟩
  | 82 => ⟨S_, .i32⟩
  | 83 => ⟨S640x640, .i32⟩
  | 84 => ⟨S640x640, .i32⟩
  | 85 => ⟨S_, .i32⟩
  | 86 => ⟨S640x640, .i32⟩
  | 87 => ⟨S640x640, .i32⟩
  | 88 => ⟨S_, .i32⟩
  | 89 => ⟨S640x640, .i32⟩
  | 90 => ⟨S640x640, .i32⟩
  | 91 => ⟨S3x12x640x640, .i32⟩
  | 92 => ⟨S_, .i32⟩
  | 93 => ⟨S3x12x640x640, .i32⟩
  | 94 => ⟨S3x12x640x640, .i1⟩
  | 95 => ⟨S_, .i32⟩
  | 96 => ⟨S3x12x640x640, .i32⟩
  | 97 => ⟨S3x12x640x640, .i32⟩
  | 98 => ⟨S3x12x640x640, .i32⟩
  | 99 => ⟨S3x12x640x640x1, .i32⟩
  | 100 => ⟨S3x12x640x640, .f32⟩
  | 101 => ⟨S3x12x640, .f32⟩
  | 102 => ⟨S3x12x1, .f32⟩
  | 103 => ⟨S3x12x640, .f32⟩
  | 104 => ⟨S3x12x640, .f32⟩
  | 105 => ⟨S3x12x640x1, .f32⟩
  | 106 => ⟨S3x12x640, .f32⟩
  | 107 => ⟨S1x12x1, .f32⟩
  | 108 => ⟨S3x12x640, .f32⟩
  | 109 => ⟨S3x12x640, .f32⟩
  | 110 => ⟨S3x12x640x1, .f32⟩
  | 111 => ⟨S3x12x640x640, .f32⟩
  | 112 => ⟨S3x12x640x640, .f32⟩
  | 113 => ⟨S3x12x640x640, .f32⟩
  | 114 => ⟨S3x12x640x640, .f32⟩
  | 115 => ⟨S3x12x640x640, .f32⟩
  | 116 => ⟨S_, .f32⟩
  | 117 => ⟨S_, .f32⟩
  | 118 => ⟨S3x12x640x640, .f32⟩
  | 119 => ⟨S3x12x640x640, .f32⟩
  | 120 => ⟨S_, .f32⟩
  | 121 => ⟨S3x12x640, .f32⟩
  | 122 => ⟨S3x12x640x1, .f32⟩
  | 123 => ⟨S3x12x640x640, .f32⟩
  | 124 => ⟨S3x12x640x640, .f32⟩
  | 125 => ⟨S3x12x640x640, .f32⟩
  | 126 => ⟨S_, .f32⟩
  | 127 => ⟨S3x12x640, .f32⟩
  | _ => ⟨S3x640x12x96, .bf16⟩

abbrev hbmTy0_1 (i : Nat) : BufTy := match i % 128 with
  | 0 => ⟨S3x12x640x1, .f32⟩
  | 1 => ⟨S_, .f32⟩
  | 2 => ⟨S3x12x640x1, .f32⟩
  | 3 => ⟨S3x12x640x1, .f32⟩
  | 4 => ⟨S3x12x640x640, .f32⟩
  | 5 => ⟨S3x12x640x640, .f32⟩
  | 6 => ⟨S3x12x640x640, .bf16⟩
  | 7 => ⟨S3x12x96x640, .f32⟩
  | 8 => ⟨S3x640x12x96, .f32⟩
  | 9 => ⟨S3x1x12x1, .f32⟩
  | 10 => ⟨S3x640x12x96, .f32⟩
  | 11 => ⟨S3x640x12x96, .f32⟩
  | 12 => ⟨S3x640x1152, .f32⟩
  | 13 => ⟨S3x640x1152, .bf16⟩
  | 14 => ⟨S3x12x96x640, .fp8e4m3⟩
  | 15 => ⟨S3x12x640, .f32⟩
  | 16 => ⟨S3x3x4x640, .f32⟩
  | 17 => ⟨S3x12x96x640, .fp8e4m3⟩
  | 18 => ⟨S3x12x640, .f32⟩
  | 19 => ⟨S3x3x4x640, .f32⟩
  | _ => ⟨S3x640x12x96, .bf16⟩

abbrev hbmTy (i : Nat) : BufTy := match i / 128 with
  | 0 => hbmTy0_0 i
  | 1 => hbmTy0_1 i
  | _ => ⟨S3x640x12x96, .bf16⟩

abbrev bufTy : (tb : Table) → Fin (tcTables nBuf tb) → BufTy
  | .hbm, ⟨i, _⟩ => hbmTy i
  | .local _ .vmem, ⟨0, _⟩ => ⟨S2x3x640x12x96, .f32⟩
  | .local _ .vmem, ⟨1, _⟩ => ⟨S3x640x12x96, .fp8e4m3⟩
  | .local _ .vmem, ⟨2, _⟩ => ⟨S3x640x12x96, .fp8e4m3⟩
  | .local _ .vmem, ⟨3, _⟩ => ⟨S769x12x96, .fp8e4m3⟩
  | .local _ .vmem, ⟨4, _⟩ => ⟨S2x3x640x12x96, .fp8e4m3⟩
  | .local _ .vmem, ⟨5, _⟩ => ⟨S2x3x640x12x96, .f32⟩
  | .local _ .vmem, ⟨6, _⟩ => ⟨S3x640x12x96, .f32⟩
  | .local _ .vmem, ⟨7, _⟩ => ⟨S3x640x12x96, .bf16⟩
  | .local _ .vmem, ⟨8, _⟩ => ⟨S769x12x96, .f32⟩
  | _, _ => ⟨S3x640x12x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_call0_v0 : Ref sig .tc := ⟨.hbm, 41, rfl⟩
abbrev main_call0_v1 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34_0 : Ref sig .tc := ⟨.hbm, 54, rfl⟩
abbrev main_v34_1 : Ref sig .tc := ⟨.hbm, 55, rfl⟩
abbrev main_v34_2 : Ref sig .tc := ⟨.hbm, 56, rfl⟩
abbrev main_v34_3 : Ref sig .tc := ⟨.hbm, 57, rfl⟩
abbrev main_v34_4 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c : Ref sig .tc := ⟨.hbm, 80, rfl⟩
abbrev main_c_8 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_v56 : Ref sig .tc := ⟨.hbm, 87, rfl⟩
abbrev main_c_9 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_call2_c : Ref sig .tc := ⟨.hbm, 92, rfl⟩
abbrev main_call2_v0 : Ref sig .tc := ⟨.hbm, 93, rfl⟩
abbrev main_call2_v1 : Ref sig .tc := ⟨.hbm, 94, rfl⟩
abbrev main_call2_c_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_10 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_11 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_12 : Ref sig .tc := ⟨.hbm, 126, rfl⟩
abbrev main_v84 : Ref sig .tc := ⟨.hbm, 127, rfl⟩
abbrev main_v85 : Ref sig .tc := ⟨.hbm, 128, rfl⟩
abbrev main_cst_13 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x3x640x12x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x640x12x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x640x12x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S769x12x96 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x3x640x12x96 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x3x640x12x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x640x12x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x640x12x96 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S769x12x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Step.lean ====
/- The arithmetic of one grid step, written once for any head and any block of 128 query rows. -/
module

public import proofs.«01_k».proof.Proof.Gen.KernelIdeal

@[expose] public section

noncomputable section

namespace Cert.Proof

open Idealize.ShloMosaic Idealize.SL.Sem Cert.KernelIdeal Cert.KernelIdeal.Gen

variable {F : FTy → Type} [FloatOps F] [Named F]

/-! ## The quantiser -/

/-- A head's queries (channels by positions) plus a bias per channel. -/
def biased (q : FVec F S1x1x96x640 .bf16) (b : FVec F S1x96x1 .f32) : FVec F S96x640 .f32 :=
  addf (extf .f32 (shapeCast S96x640 q shapeCasts_S1x1x96x640_S96x640) bitsLt_bf16_f32)
    (broadcastTo S96x640 (shapeCast S96x1 b shapeCasts_S1x96x1_S96x1) broadcasts_S96x1_S96x640)

/-- Per position, the largest magnitude over the channels times 1/448. -/
def quot (x : FVec F S96x640 .f32) : FVec F S1x640 .f32 :=
  mulf (shapeCast S1x640 (multiReduction .maximumf [0] S640 (absf x) 0xFF800000#32 reduces_S96x640_S640 (.inl rfl) rfl)
    shapeCasts_S640_S1x640) (broadcast S1x640 (Scalar.ofBits .f32 0x3B124925#32 : F .f32))

/-- One bit of the exponent field: set when the quotient reaches the power of two with that bit set. -/
def fieldBit (y : FVec F S1x640 .f32) (bit : BitVec 32) (f : IVec S1x640 32) : IVec S1x640 32 :=
  select (cmpf .oge y (bitcastToFloat .f32 (shli (addi f (broadcast S1x640 bit)) (broadcast S1x640 23#32))))
    (addi f (broadcast S1x640 bit)) f

/-- The exponent field of the quotient, all ones for a quotient of 2^120 and more. -/
def fieldOf (y : FVec F S1x640 .f32) : IVec S1x640 32 :=
  select (cmpf .olt y (broadcast S1x640 (Scalar.ofBits .f32 0x7B800000#32 : F .f32)))
    (fieldBit y 1#32 (fieldBit y 2#32 (fieldBit y 4#32 (fieldBit y 8#32 (fieldBit y 16#32 (fieldBit y 32#32
      (fieldBit y 64#32 (fieldBit y 128#32 (broadcast S1x640 0#32)))))))))
    (broadcast S1x640 255#32)

/-- The exponent of the scale: 0 where the field is all zeros or all ones. -/
def expOf (f : IVec S1x640 32) : IVec S1x640 32 :=
  select (ori (cmpi .eq f (broadcast S1x640 0#32)) (cmpi .eq f (broadcast S1x640 255#32)))
    (broadcast S1x640 0#32) (subi f (broadcast S1x640 126#32))

/-- The inverse of the scale, two to the minus the exponent. -/
def invOf (e : IVec S1x640 32) : FVec F S1x640 .f32 :=
  bitcastToFloat .f32 (shli (subi (broadcast S1x640 127#32) e) (broadcast S1x640 23#32))

/-- The scale, two to the exponent. -/
def sclOf (e : IVec S1x640 32) : FVec F S1x640 .f32 :=
  bitcastToFloat .f32 (shli (addi (broadcast S1x640 127#32) e) (broadcast S1x640 23#32))

/-- The codes: scaled down, clipped to ±448, cast. -/
def clipped (x : FVec F S96x640 .f32) (inv : FVec F S1x640 .f32) : FVec F S96x640 .fp8e4m3 :=
  truncf .fp8e4m3 (minimumf (broadcast S96x640 (Scalar.ofBits .f32 0x43E00000#32 : F .f32))
    (maximumf (broadcast S96x640 (Scalar.ofBits .f32 0xC3E00000#32 : F .f32))
      (mulf x (broadcastTo S96x640 inv broadcasts_S1x640_S96x640)))) bitsLt_fp8e4m3_f32

/-- The scales of a head's biased queries. -/
def scales (x : FVec F S96x640 .f32) : FVec F S1x640 .f32 := sclOf (expOf (fieldOf (quot x)))

/-- The codes of a head's biased queries. -/
def codes (x : FVec F S96x640 .f32) : FVec F S96x640 .fp8e4m3 := clipped x (invOf (expOf (fieldOf (quot x))))

/-- A row of query scales times a table's scale times log2(e)/√96. -/
def rowScale (s : FVec F S1x640 .f32) (c : F .f32) : FVec F S1x640 .f32 :=
  mulf s (broadcast S1x640 (Scalar.mulf c (Named.named κ "log2e_scale" 0x3E16C740#32)))

/-! ## One block of 128 query rows -/

/-- Codes turned to rows by channels. -/
def rowsOf (c : FVec F S96x128 .fp8e4m3) : FVec F S128x96 .fp8e4m3 :=
  truncf .fp8e4m3 (transpose S128x96 [1, 0] (extf .bf16 c bitsLt_fp8e4m3_bf16) transposes_S96x128_p1_0_S128x96)
    bitsLt_fp8e4m3_bf16

/-- A row of scales turned to a column and repeated along the lanes. -/
def colOf (s : FVec F S1x128 .f32) : FVec F S128x128 .f32 :=
  transpose S128x128 [1, 0] (broadcastTo S128x128 (shapeCast S1x128 s shapeCasts_S1x128_S1x128) broadcasts_S1x128_S128x128)
    transposes_S128x128_p1_0_S128x128

/-- The mask of the lanes which a row's rotation carries past no edge: row + lane < 128. -/
def upperMask : IVec S128x128 1 :=
  cmpi .slt (addi (iota .tc S128x128 32 [0] iota_S128x128_d0_w32) (iota .tc S128x128 32 [1] iota_S128x128_d1_w32))
    (broadcast S128x128 128#32)

/-- The position products of a block with one tile of 128 positions, scaled. -/
def posTile (qv : FVec F S128x96 .fp8e4m3) (sv : FVec F S128x128 .f32) (p : FVec F S96x128 .fp8e4m3) : FVec F S128x128 .f32 :=
  mulf (matmul dot_S128x96_S96x128_S128x128_1_0_0_1_n_n none qv p (constant S128x128 .f32 0x00000000#32)) sv

/-- Two neighbouring tiles of position products joined into the one skewed by the row: each row is turned by its number. -/
def skew (hi lo : FVec F S128x128 .f32) : FVec F S128x128 .f32 :=
  dynamicRotate 1 0#32 (some (1, 0)) (select upperMask hi lo) rotates_S128x128_d1s1a0

/-- One tile of scores. -/
def scoreTile (ac su bd : FVec F S128x128 .f32) : FVec F S128x128 .f32 := addf (mulf ac su) bd

/-- The scores of a block of rows against all 640 keys. -/
def scores (kt : FVec F S96x640 .fp8e4m3) (qu qv : FVec F S96x128 .fp8e4m3) (su sv : FVec F S1x128 .f32)
    (p0 p1 p2 p3 p4 p5 : FVec F S96x128 .fp8e4m3) : FVec F S128x640 .f32 :=
  have ac : FVec F S128x640 .f32 := matmul dot_S128x96_S96x640_S128x640_1_0_0_1_n_n none (rowsOf qu) kt
    (constant S128x640 .f32 0x00000000#32)
  have bd : FVec F S96x128 .fp8e4m3 → FVec F S128x128 .f32 := posTile (rowsOf qv) (colOf sv)
  concatenate S128x640 1 [
    ⟨S128x128, scoreTile (extractStridedSlice S128x128 ![0, 0] ac slices_S128x640_o0_0_S128x128) (colOf su) (skew (bd p1) (bd p0))⟩,
    ⟨S128x128, scoreTile (extractStridedSlice S128x128 ![0, 128] ac slices_S128x640_o0_128_S128x128) (colOf su) (skew (bd p2) (bd p1))⟩,
    ⟨S128x128, scoreTile (extractStridedSlice S128x128 ![0, 256] ac slices_S128x640_o0_256_S128x128) (colOf su) (skew (bd p3) (bd p2))⟩,
    ⟨S128x128, scoreTile (extractStridedSlice S128x128 ![0, 384] ac slices_S128x640_o0_384_S128x128) (colOf su) (skew (bd p4) (bd p3))⟩,
    ⟨S128x128, scoreTile (extractStridedSlice S128x128 ![0, 512] ac slices_S128x640_o0_512_S128x128) (colOf su) (skew (bd p5) (bd p4))⟩]
    concatenates_S128x128_S128x128_S128x128_S128x128_S128x128_S128x640_d1

/-- The weights of a block: two to the scores less the row's largest. -/
def weights (st : FVec F S128x640 .f32) : FVec F S128x640 .f32 :=
  exp2 (subf st (broadcastTo S128x640 (shapeCast S128x1
    (multiReduction .maximumf [1] S128 st 0xFF800000#32 reduces_S128x640_S128 (.inl rfl) rfl) shapeCasts_S128_S128x1)
    broadcasts_S128x1_S128x640))

/-- The block's context: weights times values, times the values' scale over the weights' sum. -/
def context (e : FVec F S128x640 .f32) (vt : FVec F S96x640 .bf16) (vs : F .f32) : FVec F S128x96 .bf16 :=
  truncf .bf16 (mulf
    (matmul dot_S128x640_S96x640_S128x96_1_1_0_0_n_n none (truncf .bf16 e bitsLt_bf16_f32) vt (constant S128x96 .f32 0x00000000#32))
    (broadcastTo S128x96 (divf (broadcast S128x1 vs) (shapeCast S128x1
      (multiReduction .add [1] S128 e 0x00000000#32 reduces_S128x640_S128 (.inl rfl) rfl) shapeCasts_S128_S128x1))
      broadcasts_S128x1_S128x96)) bitsLt_bf16_f32

/-- The stored tile of the block of rows cut at `o`, from a head's codes and row scales. -/
def tile (kt : FVec F S96x640 .fp8e4m3) (vt : FVec F S96x640 .bf16) (vs : F .f32) (cu cw : FVec F S96x640 .fp8e4m3)
    (ru rw : FVec F S1x640 .f32) (o : Nat) (hc : S96x640.Slices ![0, o] S96x128) (hs : S1x640.Slices ![0, o] S1x128)
    (p0 p1 p2 p3 p4 p5 : FVec F S96x128 .fp8e4m3) : FVec F S1x128x96 .bf16 :=
  shapeCast S1x128x96 (context (weights (scores kt (extractStridedSlice S96x128 ![0, o] cu hc)
    (extractStridedSlice S96x128 ![0, o] cw hc) (extractStridedSlice S1x128 ![0, o] ru hs)
    (extractStridedSlice S1x128 ![0, o] rw hs) p0 p1 p2 p3 p4 p5)) vt vs) shapeCasts_S128x96_S1x128x96

/-! ## One head -/

/-- What a head reads: its queries, the two biases, keys, values, positions (all, and the last 128), and the three scales. -/
structure HeadIn (F : FTy → Type) where
  q : FVec F S1x1x96x640 .bf16
  u : FVec F S1x96x1 .f32
  w : FVec F S1x96x1 .f32
  k : FVec F S1x1x96x640 .fp8e4m3
  v : FVec F S1x1x96x640 .fp8e4m3
  p : FVec F S1x96x769 .fp8e4m3
  pl : FVec F S1x96x128 .fp8e4m3
  ks : F .f32
  vs : F .f32
  ps : F .f32

variable (H : HeadIn F)

def HeadIn.cu : FVec F S96x640 .fp8e4m3 := codes (biased H.q H.u)
def HeadIn.cw : FVec F S96x640 .fp8e4m3 := codes (biased H.q H.w)
def HeadIn.su : FVec F S1x640 .f32 := scales (biased H.q H.u)
def HeadIn.sw : FVec F S1x640 .f32 := scales (biased H.q H.w)
/-- The head's row scales for the key products and for the position products. -/
def HeadIn.ru : FVec F S1x640 .f32 := rowScale H.su H.ks
def HeadIn.rw : FVec F S1x640 .f32 := rowScale H.sw H.ps
def HeadIn.kt : FVec F S96x640 .fp8e4m3 := shapeCast S96x640 H.k shapeCasts_S1x1x96x640_S96x640
def HeadIn.vt : FVec F S96x640 .bf16 := extf .bf16 (shapeCast S96x640 H.v shapeCasts_S1x1x96x640_S96x640) bitsLt_fp8e4m3_bf16
def HeadIn.pt : FVec F S96x769 .fp8e4m3 := shapeCast S96x769 H.p shapeCasts_S1x96x769_S96x769
/-- The six whole tiles of positions. -/
def HeadIn.t0 : FVec F S96x128 .fp8e4m3 := extractStridedSlice S96x128 ![0, 0] H.pt slices_S96x769_o0_0_S96x128
def HeadIn.t1 : FVec F S96x128 .fp8e4m3 := extractStridedSlice S96x128 ![0, 128] H.pt slices_S96x769_o0_128_S96x128
def HeadIn.t2 : FVec F S96x128 .fp8e4m3 := extractStridedSlice S96x128 ![0, 256] H.pt slices_S96x769_o0_256_S96x128
def HeadIn.t3 : FVec F S96x128 .fp8e4m3 := extractStridedSlice S96x128 ![0, 384] H.pt slices_S96x769_o0_384_S96x128
def HeadIn.t4 : FVec F S96x128 .fp8e4m3 := extractStridedSlice S96x128 ![0, 512] H.pt slices_S96x769_o0_512_S96x128
def HeadIn.t5 : FVec F S96x128 .fp8e4m3 := extractStridedSlice S96x128 ![0, 640] H.pt slices_S96x769_o0_640_S96x128
/-- The first position repeated, and the last position repeated. -/
def HeadIn.lo : FVec F S96x128 .fp8e4m3 :=
  broadcastTo S96x128 (shapeCast S96x1 (extractStridedSlice S96x1 ![0, 0] H.t0 slices_S96x128_o0_0_S96x1)
    shapeCasts_S96x1_S96x1) broadcasts_S96x1_S96x128
def HeadIn.hi : FVec F S96x128 .fp8e4m3 :=
  broadcastTo S96x128 (shapeCast S96x1 (extractStridedSlice S96x1 ![0, 127]
    (shapeCast S96x128 H.pl shapeCasts_S1x96x128_S96x128) slices_S96x128_o0_127_S96x1)
    shapeCasts_S96x1_S96x1) broadcasts_S96x1_S96x128

/-- The output tiles of the five blocks of rows, each over the six tiles of positions it meets. -/
def HeadIn.o0 : FVec F S1x128x96 .bf16 :=
  tile H.kt H.vt H.vs H.cu H.cw H.ru H.rw 0 slices_S96x640_o0_0_S96x128 slices_S1x640_o0_0_S1x128
    H.t2 H.t3 H.t4 H.t5 H.hi H.hi
def HeadIn.o1 : FVec F S1x128x96 .bf16 :=
  tile H.kt H.vt H.vs H.cu H.cw H.ru H.rw 128 slices_S96x640_o0_128_S96x128 slices_S1x640_o0_128_S1x128
    H.t1 H.t2 H.t3 H.t4 H.t5 H.hi
def HeadIn.o2 : FVec F S1x128x96 .bf16 :=
  tile H.kt H.vt H.vs H.cu H.cw H.ru H.rw 256 slices_S96x640_o0_256_S96x128 slices_S1x640_o0_256_S1x128
    H.t0 H.t1 H.t2 H.t3 H.t4 H.t5
def HeadIn.o3 : FVec F S1x128x96 .bf16 :=
  tile H.kt H.vt H.vs H.cu H.cw H.ru H.rw 384 slices_S96x640_o0_384_S96x128 slices_S1x640_o0_384_S1x128
    H.lo H.t0 H.t1 H.t2 H.t3 H.t4
def HeadIn.o4 : FVec F S1x128x96 .bf16 :=
  tile H.kt H.vt H.vs H.cu H.cw H.ru H.rw 512 slices_S96x640_o0_512_S96x128 slices_S1x640_o0_512_S1x128
    H.lo H.lo H.t0 H.t1 H.t2 H.t3

/-- What a head stores beside the output tiles. -/
def HeadIn.cuOut : FVec F S1x1x96x640 .fp8e4m3 := shapeCast S1x1x96x640 H.cu shapeCasts_S96x640_S1x1x96x640
def HeadIn.cwOut : FVec F S1x1x96x640 .fp8e4m3 := shapeCast S1x1x96x640 H.cw shapeCasts_S96x640_S1x1x96x640
def HeadIn.suOut : FVec F S1x1x1x640 .f32 := shapeCast S1x1x1x640 H.su shapeCasts_S1x640_S1x1x1x640
def HeadIn.swOut : FVec F S1x1x1x640 .f32 := shapeCast S1x1x1x640 H.sw shapeCasts_S1x640_S1x1x1x640

end Cert.Proof

end
-- ==== Proof.Pieces.lean ====
/- What one grid step of the kernel stores, head by head: each stored piece is the arithmetic of `Step` on that head's loads. -/
module

public import proofs.«01_k».proof.Proof.Gen.KernelIdeal.Value
public import proofs.«01_k».proof.Proof.Step

@[expose] public section

noncomputable section

namespace Cert.Proof

open Idealize.ShloMosaic Idealize.ShloMosaic.TcCoe Idealize.SL.Sem Cert.KernelIdeal Cert.KernelIdeal.Gen

variable {F : FTy → Type} [FloatOps F] [Named F]

/-- Head `h`'s block of the queries, keys or values lies inside the step's block. -/
theorem head_inb (h : Fin 4) : ∀ a, (![0, h.val, 0, 0] : Fin 4 → Nat) a + S1x1x96x640.size a ≤ S1x4x96x640.size a := by
  revert h; decide
theorem head_inb_b (h : Fin 4) : ∀ a, (![h.val, 0, 0] : Fin 3 → Nat) a + S1x96x1.size a ≤ S4x96x1.size a := by
  revert h; decide
theorem head_inb_p (h : Fin 4) : ∀ a, (![h.val, 0, 0] : Fin 3 → Nat) a + S1x96x769.size a ≤ S4x96x769.size a := by
  revert h; decide
theorem head_inb_pl (h : Fin 4) : ∀ a, (![h.val, 0, 641] : Fin 3 → Nat) a + S1x96x128.size a ≤ S4x96x769.size a := by
  revert h; decide

/-- What head `h` reads of the step's blocks. -/
def headOf (i : grid0.Coords) (x0 : Vec F S3x12 .f32) (x1 : Vec F S3x12 .f32) (x2 : Vec F S12 .f32) (x3 : Vec F S1x4x96x640 .bf16) (x4 : Vec F S1x4x96x640 .fp8e4m3) (x5 : Vec F S1x4x96x640 .fp8e4m3) (x6 : Vec F S4x96x769 .fp8e4m3) (x7 : Vec F S4x96x1 .f32) (x8 : Vec F S4x96x1 .f32) (h : Fin 4) : HeadIn F where
  q := View.ld x3 (Rect.unit ![0, h.val, 0, 0] S1x1x96x640.size (head_inb h))
  u := View.ld x7 (Rect.unit ![h.val, 0, 0] S1x96x1.size (head_inb_b h))
  w := View.ld x8 (Rect.unit ![h.val, 0, 0] S1x96x1.size (head_inb_b h))
  k := View.ld x4 (Rect.unit ![0, h.val, 0, 0] S1x1x96x640.size (head_inb h))
  v := View.ld x5 (Rect.unit ![0, h.val, 0, 0] S1x1x96x640.size (head_inb h))
  p := View.ld x6 (Rect.unit ![h.val, 0, 0] S1x96x769.size (head_inb_p h))
  pl := View.ld x6 (Rect.unit ![h.val, 0, 641] S1x96x128.size (head_inb_pl h))
  ks := View.ld x0 (Rect.unit (k0_off1 i (BitVec.ofNat 32 h.val)) S1x1.size (k0_off1_inb i h)) (Shape.Idx.first (by show 0 < S1x1.numel; decide))
  vs := View.ld x1 (Rect.unit (k0_off1 i (BitVec.ofNat 32 h.val)) S1x1.size (k0_off1_inb i h)) (Shape.Idx.first (by show 0 < S1x1.numel; decide))
  ps := View.ld x2 (Rect.unit (k0_off2 i (BitVec.ofNat 32 h.val)) S1.size (k0_off2_inb i h)) (Shape.Idx.first (by show 0 < S1.numel; decide))

section

variable (c : Dev nD) (i : grid0.Coords) (arg2 : Memref sig .tc .smem S3x12 .f32) (harg2 : arg2.IsWhole) (arg3 : Memref sig .tc .smem S3x12 .f32) (harg3 : arg3.IsWhole) (arg4 : Memref sig .tc .smem S12 .f32) (harg4 : arg4.IsWhole) (arg5 : Memref sig .tc .vmem S1x4x96x640 .bf16) (harg5 : arg5.IsWhole) (arg6 : Memref sig .tc .vmem S1x4x96x640 .fp8e4m3) (harg6 : arg6.IsWhole) (arg7 : Memref sig .tc .vmem S1x4x96x640 .fp8e4m3) (harg7 : arg7.IsWhole) (arg8 : Memref sig .tc .vmem S4x96x769 .fp8e4m3) (harg8 : arg8.IsWhole) (arg9 : Memref sig .tc .vmem S4x96x1 .f32) (harg9 : arg9.IsWhole) (arg10 : Memref sig .tc .vmem S4x96x1 .f32) (harg10 : arg10.IsWhole) (arg11 : Memref sig .tc .vmem S1x640x384 .bf16) (harg11 : arg11.IsWhole) (arg12 : Memref sig .tc .vmem S1x4x96x640 .fp8e4m3) (harg12 : arg12.IsWhole) (arg13 : Memref sig .tc .vmem S1x1x4x640 .f32) (harg13 : arg13.IsWhole) (arg14 : Memref sig .tc .vmem S1x4x96x640 .fp8e4m3) (harg14 : arg14.IsWhole) (arg15 : Memref sig .tc .vmem S1x1x4x640 .f32) (harg15 : arg15.IsWhole)
  (x0 : Vec F S3x12 .f32) (x1 : Vec F S3x12 .f32) (x2 : Vec F S12 .f32) (x3 : Vec F S1x4x96x640 .bf16) (x4 : Vec F S1x4x96x640 .fp8e4m3) (x5 : Vec F S1x4x96x640 .fp8e4m3) (x6 : Vec F S4x96x769 .fp8e4m3) (x7 : Vec F S4x96x1 .f32) (x8 : Vec F S4x96x1 .f32)

/-- The same reads, through the step's memrefs. -/
def headRd (h : Fin 4) : HeadIn F where
  q := View.readAt (Elt F) arg5.view (Rect.unit (s := S1x4x96x640) ![0, h.val, 0, 0] S1x1x96x640.size (head_inb h)).toLoadRect (harg5.unread x3)
  u := View.readAt (Elt F) arg9.view (Rect.unit (s := S4x96x1) ![h.val, 0, 0] S1x96x1.size (head_inb_b h)).toLoadRect (harg9.unread x7)
  w := View.readAt (Elt F) arg10.view (Rect.unit (s := S4x96x1) ![h.val, 0, 0] S1x96x1.size (head_inb_b h)).toLoadRect (harg10.unread x8)
  k := View.readAt (Elt F) arg6.view (Rect.unit (s := S1x4x96x640) ![0, h.val, 0, 0] S1x1x96x640.size (head_inb h)).toLoadRect (harg6.unread x4)
  v := View.readAt (Elt F) arg7.view (Rect.unit (s := S1x4x96x640) ![0, h.val, 0, 0] S1x1x96x640.size (head_inb h)).toLoadRect (harg7.unread x5)
  p := View.readAt (Elt F) arg8.view (Rect.unit (s := S4x96x769) ![h.val, 0, 0] S1x96x769.size (head_inb_p h)).toLoadRect (harg8.unread x6)
  pl := View.readAt (Elt F) arg8.view (Rect.unit (s := S4x96x769) ![h.val, 0, 641] S1x96x128.size (head_inb_pl h)).toLoadRect (harg8.unread x6)
  ks := View.readAt (Elt F) arg2.view (Rect.unit (s := S3x12) (k0_off1 i (BitVec.ofNat 32 h.val)) S1x1.size (k0_off1_inb i h)).toLoadRect (harg2.unread x0) (Shape.Idx.first (by show 0 < S1x1.numel; decide))
  vs := View.readAt (Elt F) arg3.view (Rect.unit (s := S3x12) (k0_off1 i (BitVec.ofNat 32 h.val)) S1x1.size (k0_off1_inb i h)).toLoadRect (harg3.unread x1) (Shape.Idx.first (by show 0 < S1x1.numel; decide))
  ps := View.readAt (Elt F) arg4.view (Rect.unit (s := S12) (k0_off2 i (BitVec.ofNat 32 h.val)) S1.size (k0_off2_inb i h)).toLoadRect (harg4.unread x2) (Shape.Idx.first (by show 0 < S1.numel; decide))

theorem headRd_eq (h : Fin 4) : headRd i arg2 harg2 arg3 harg3 arg4 harg4 arg5 harg5 arg6 harg6 arg7 harg7 arg8 harg8 arg9 harg9 arg10 harg10 x0 x1 x2 x3 x4 x5 x6 x7 x8 h = headOf i x0 x1 x2 x3 x4 x5 x6 x7 x8 h := by
  have e {s : Shape} {el sp} {m : Memref sig .tc sp s el} (hm : m.IsWhole) (X : Vec F s el) (r : Rect s) :
      View.readAt (Elt F) m.view r.toLoadRect (hm.unread X) = View.ld X r :=
    funext fun j => congrFun (Memref.IsWhole.read_unread hm X) _
  unfold headRd headOf
  rw [e, e, e, e, e, e, e, e, e, e]

end

end Cert.Proof

end
-- ==== Proof.Head0.lean ====
/- The output tiles of a grid step's head 0: each is the arithmetic of `Step` on that head's loads. -/
module

public import proofs.«01_k».proof.Proof.Pieces

@[expose] public section

set_option maxHeartbeats 1000000

noncomputable section

namespace Cert.Proof

open Idealize.ShloMosaic Idealize.ShloMosaic.TcCoe Idealize.SL.Sem Cert.KernelIdeal Cert.KernelIdeal.Gen

variable {F : FTy → Type} [FloatOps F] [Named F]
variable (c : Dev nD) (i : grid0.Coords) (arg2 : Memref sig .tc .smem S3x12 .f32) (harg2 : arg2.IsWhole) (arg3 : Memref sig .tc .smem S3x12 .f32) (harg3 : arg3.IsWhole) (arg4 : Memref sig .tc .smem S12 .f32) (harg4 : arg4.IsWhole) (arg5 : Memref sig .tc .vmem S1x4x96x640 .bf16) (harg5 : arg5.IsWhole) (arg6 : Memref sig .tc .vmem S1x4x96x640 .fp8e4m3) (harg6 : arg6.IsWhole) (arg7 : Memref sig .tc .vmem S1x4x96x640 .fp8e4m3) (harg7 : arg7.IsWhole) (arg8 : Memref sig .tc .vmem S4x96x769 .fp8e4m3) (harg8 : arg8.IsWhole) (arg9 : Memref sig .tc .vmem S4x96x1 .f32) (harg9 : arg9.IsWhole) (arg10 : Memref sig .tc .vmem S4x96x1 .f32) (harg10 : arg10.IsWhole) (arg11 : Memref sig .tc .vmem S1x640x384 .bf16) (harg11 : arg11.IsWhole) (arg12 : Memref sig .tc .vmem S1x4x96x640 .fp8e4m3) (harg12 : arg12.IsWhole) (arg13 : Memref sig .tc .vmem S1x1x4x640 .f32) (harg13 : arg13.IsWhole) (arg14 : Memref sig .tc .vmem S1x4x96x640 .fp8e4m3) (harg14 : arg14.IsWhole) (arg15 : Memref sig .tc .vmem S1x1x4x640 .f32) (harg15 : arg15.IsWhole)
  (x0 : Vec F S3x12 .f32) (x1 : Vec F S3x12 .f32) (x2 : Vec F S12 .f32) (x3 : Vec F S1x4x96x640 .bf16) (x4 : Vec F S1x4x96x640 .fp8e4m3) (x5 : Vec F S1x4x96x640 .fp8e4m3) (x6 : Vec F S4x96x769 .fp8e4m3) (x7 : Vec F S4x96x1 .f32) (x8 : Vec F S4x96x1 .f32)

theorem cu0_eq : kernelRun0_A.sl.v121 c arg5 harg5 arg9 harg9 x3 x7 = (headRd i arg2 harg2 arg3 harg3 arg4 harg4 arg5 harg5 arg6 harg6 arg7 harg7 arg8 harg8 arg9 harg9 arg10 harg10 x0 x1 x2 x3 x4 x5 x6 x7 x8 0).cu := rfl
theorem cw0_eq : kernelRun0_A.sl.v233 c arg5 harg5 arg10 harg10 x3 x8 = (headRd i arg2 harg2 arg3 harg3 arg4 harg4 arg5 harg5 arg6 harg6 arg7 harg7 arg8 harg8 arg9 harg9 arg10 harg10 x0 x1 x2 x3 x4 x5 x6 x7 x8 0).cw := rfl
theorem su0_eq : kernelRun0_A.sl.v114 c arg5 harg5 arg9 harg9 x3 x7 = (headRd i arg2 harg2 arg3 harg3 arg4 harg4 arg5 harg5 arg6 harg6 arg7 harg7 arg8 harg8 arg9 harg9 arg10 harg10 x0 x1 x2 x3 x4 x5 x6 x7 x8 0).su := rfl
theorem sw0_eq : kernelRun0_A.sl.v226 c arg5 harg5 arg10 harg10 x3 x8 = (headRd i arg2 harg2 arg3 harg3 arg4 harg4 arg5 harg5 arg6 harg6 arg7 harg7 arg8 harg8 arg9 harg9 arg10 harg10 x0 x1 x2 x3 x4 x5 x6 x7 x8 0).sw := rfl

theorem tile00_eq : kernelRun0_A.sl.v352 c i arg2 harg2 arg3 harg3 arg4 harg4 arg5 harg5 arg6 harg6 arg7 harg7 arg8 harg8 arg9 harg9 arg10 harg10 x0 x1 x2 x3 x4 x5 x6 x7 x8 = (headRd i arg2 harg2 arg3 harg3 arg4 harg4 arg5 harg5 arg6 harg6 arg7 harg7 arg8 harg8 arg9 harg9 arg10 harg10 x0 x1 x2 x3 x4 x5 x6 x7 x8 0).o0 := by
  have e : kernelRun0_A.sl.v352 c i arg2 harg2 arg3 harg3 arg4 harg4 arg5 harg5 arg6 harg6 arg7 harg7 arg8 harg8 arg9 harg9 arg10 harg10 x0 x1 x2 x3 x4 x5 x6 x7 x8 =
      tile (headRd i arg2 harg2 arg3 harg3 arg4 harg4 arg5 harg5 arg6 harg6 arg7 harg7 arg8 harg8 arg9 harg9 arg10 harg10 x0 x1 x2 x3 x4 x5 x6 x7 x8 0).kt (headRd i arg2 harg2 arg3 harg3 arg4 harg4 arg5 harg5 arg6 harg6 arg7 harg7 arg8 harg8 arg9 harg9 arg10 harg10 x0 x1 x2 x3 x4 x5 x6 x7 x8 0).vt (headRd i arg2 harg2 arg3 harg3 arg4 harg4 arg5 harg5 arg6 harg6 arg7 harg7 arg8 harg8 arg9 harg9 arg10 harg10 x0 x1 x2 x3 x4 x5 x6 x7 x8 0).vs (kernelRun0_A.sl.v121 c arg5 harg5 arg9 harg9 x3 x7) (kernelRun0_A.sl.v233 c arg5 harg5 arg10 harg10 x3 x8)
        (rowScale (kernelRun0_A.sl.v114 c arg5 harg5 arg9 harg9 x3 x7) (headRd i arg2 harg2 arg3 harg3 arg4 harg4 arg5 harg5 arg6 harg6 arg7 harg7 arg8 harg8 arg9 harg9 arg10 harg10 x0 x1 x2 x3 x4 x5 x6 x7 x8 0).ks) (rowScale (kernelRun0_A.sl.v226 c arg5 harg5 arg10 harg10 x3 x8) (headRd i arg2 harg2 arg3 harg3 arg4 harg4 arg5 harg5 arg6 harg6 arg7 harg7 arg8 harg8 arg9 harg9 arg10 harg10 x0 x1 x2 x3 x4 x5 x6 x7 x8 0).ps)
        0 slices_S96x640_o0_0_S96x128 slices_S1x640_o0_0_S1x128 (headRd i arg2 harg2 arg3 harg3 arg4 harg4 arg5 harg5 arg6 harg6 arg7 harg7 arg8 harg8 arg9 harg9 arg10 harg10 x0 x1 x2 x3 x4 x5 x6 x7 x8 0).t2 (headRd i arg2 harg2 arg3 harg3 arg4 harg4 arg5 harg5 arg6 harg6 arg7 harg7 arg8 harg8 arg9 harg9 arg10 harg10 x0 x1 x2 x3 x4 x5 x6 x7 x8 0).t3 (headRd i arg2 harg2 arg3 harg3 arg4 harg4 arg5 harg5 arg6 harg6 arg7 harg7 arg8 harg8 arg9 harg9 arg10 harg10 x0 x1 x2 x3 x4 x5 x6 x7 x8 0).t4 (headRd i arg2 harg2 arg3 harg3 arg4 harg4 arg5 harg5 arg6 harg6 arg7 harg7 arg8 harg8 arg9 harg9 arg10 harg10 x0 x1 x2 x3 x4 x5 x6 x7 x8 0).t5 (headRd i arg2 harg2 arg3 harg3 arg4 harg4 arg5 harg5 arg6 harg6 arg7 harg7 arg8 harg8 arg9 harg9 arg10 harg10 x0 x1 x2 x3 x4 x5 x6 x7 x8 0).hi (headRd i arg2 harg2 arg3 harg3 arg4 harg4 arg5 harg5 arg6 harg6 arg7 harg7 arg8 harg8 arg9 harg9 arg10 harg10 x0 x1 x2 x3 x4 x5 x6 x7 x8 0).hi := rfl
  rw [e, cu0_eq c i arg2 harg2 arg3 harg3 arg4 harg4 arg5 harg5 arg6 harg6 arg7 harg7 arg8 harg8 arg9 harg9 arg10 harg10 x0 x1 x2 x3 x4 x5 x6 x7 x8, cw0_eq c i arg2 harg2 arg3 harg3 arg4 harg4 arg5 harg5 arg6 harg6 arg7 harg7 arg8 harg8 arg9 harg9 arg10 harg10 x0 x1 x2 x3 x4 x5 x6 x7 x8, su0_eq c i arg2 harg2 arg3 harg3 arg4 harg4 arg5 harg5 arg6 harg6 arg7 harg7 arg8 harg8 arg9 harg9 arg10 harg10 x0 x1 x2 x3 x4 x5 x6 x7 x8, sw0_eq c i arg2 harg2 arg3 harg3 arg4 harg4 arg5 harg5 arg6 harg6 arg7 harg7 arg8 harg8 arg9 harg9 arg10 harg10 x0 x1 x2 x3 x4 x5 x6 x7 x8]
  rfl

theorem tile01_eq : kernelRun0_A.sl.v427 c i arg2 harg2 arg3 harg3 arg4 harg4 arg5 harg5 arg6 harg6 arg7 harg7 arg8 harg8 arg9 harg9 arg10 harg10 x0 x1 x2 x3 x4 x5 x6 x7 x8 = (headRd i arg2 harg2 arg3 harg3 arg4 harg4 arg5 harg5 arg6 harg6 arg7 harg7 arg8 harg8 arg9 harg9 arg10 harg10 x0 x1 x2 x3 x4 x5 x6 x7 x8 0).o1 := by
  have e : kernelRun0_A.sl.v427 c i arg2 harg2 arg3 harg3 arg4 harg4 arg5 harg5 arg6 harg6 arg7 harg7 arg8 harg8 arg9 harg9 arg10 harg10 x0 x1 x2 x3 x4 x5 x6 x7 x8 =
      tile (headRd i arg2 harg2 arg3 harg3 arg4 harg4 arg5 harg5 arg6 harg6 arg7 harg7 arg8 harg8 arg9 harg9 arg10 harg10 x0 x1 x2 x3 x4 x5 x6 x7 x8 0).kt (headRd i arg2 harg2 arg3 harg3 arg4 harg4 arg5 harg5 arg6 harg6 arg7 harg7 arg8 harg8 arg9 harg9 arg10 harg10 x0 x1 x2 x3 x4 x5 x6 x7 x8 0).vt (headRd i arg2 harg2 arg3 harg3 arg4 harg4 arg5 harg5 arg6 harg6 arg7 harg7 arg8 harg8 arg9 harg9 arg10 harg10 x0 x1 x2 x3 x4 x5 x6 x7 x8 0).vs (kernelRun0_A.sl.v121 c arg5 harg5 arg9 harg9 x3 x7) (kernelRun0_A.sl.v233 c arg5 harg5 arg10 harg10 x3 x8)
        (rowScale (kernelRun0_A.sl.v114 c arg5 harg5 arg9 harg9 x3 x7) (headRd i arg2 harg2 arg3 harg3 arg4 harg4 arg5 harg5 arg6 harg6 arg7 harg7 arg8 harg8 arg9 harg9 arg10 harg10 x0 x1 x2 x3 x4 x5 x6 x7 x8 0).ks) (rowScale (kernelRun0_A.sl.v226 c arg5 harg5 arg10 harg10 x3 x8) (headRd i arg2 harg2 arg3 harg3 arg4 harg4 arg5 harg5 arg6 harg6 arg7 harg7 arg8 harg8 arg9 harg9 arg10 harg10 x0 x1 x2 x3 x4 x5 x6 x7 x8 0).ps)
        128 slices_S96x640_o0_128_S96x128 slices_S1x640_o0_128_S1x128 (headRd i arg2 harg2 arg3 harg3 arg4 harg4 arg5 harg5 arg6 harg6 arg7 harg7 arg8 harg8 arg9 harg9 arg10 harg10 x0 x1 x2 x3 x4 x5 x6 x7 x8 0).t1 (headRd i arg2 harg2 arg3 harg3 arg4 harg4 arg5 harg5 arg6 harg6 arg7 harg7 arg8 harg8 arg9 harg9 arg10 harg10 x0 x1 x2 x3 x4 x5 x6 x7 x8 0).t2 (headRd i arg2 harg2 arg3 harg3 arg4 harg4 arg5 harg5 arg6 harg6 arg7 harg7 arg8 harg8 arg9 harg9 arg10 harg10 x0 x1 x2 x3 x4 x5 x6 x7 x8 0).t3 (headRd i arg2 harg2 arg3 harg3 arg4 harg4 arg5 harg5 arg6 harg6 arg7 harg7 arg8 harg8 arg9 harg9 arg10 harg10 x0 x1 x2 x3 x4 x5 x6 x7 x8 0).t4 (headRd i arg2 harg2 arg3 harg3 arg4 harg4 arg5 harg5 arg6 harg6 arg7 harg7 arg8 harg8 arg9 harg9 arg10 harg10 x0 x1 x2 x3 x4 x5 x6 x7 x8 0).t5 (headRd i arg2 harg2 arg3 harg3 arg4 harg4 arg5 harg5 arg6 harg6 arg7 harg7 arg8 harg8 arg9 harg9 arg10 harg10 x0 x1 x2 x3 x4 x5 x6 x7 x8 0).hi := rfl
  rw [e, cu0_eq c i arg2 harg2 arg3 harg3 arg4 harg4 arg5 harg5 arg6 harg6 arg7 harg7 arg8 harg8 arg9 harg9 arg10 harg10 x0 x1 x2 x3 x4 x5 x6 x7 x8, cw0_eq c i arg2 harg2 arg3 harg3 arg4 harg4 arg5 harg5 arg6 harg6 arg7 harg7 arg8 harg8 arg9 harg9 arg10 harg10 x0 x1 x2 x3 x4 x5 x6 x7 x8, su0_eq c i arg2 harg2 arg3 harg3 arg4 harg4 arg5 harg5 arg6 harg6 arg7 harg7 arg8 harg8 arg9 harg9 arg10 harg10 x0 x1 x2 x3 x4 x5 x6 x7 x8, sw0_eq c i arg2 harg2 arg3 harg3 arg4 harg4 arg5 harg5 arg6 harg6 arg7 harg7 arg8 harg8 arg9 harg9 arg10 harg10 x0 x1 x2 x3 x4 x5 x6 x7 x8]
  rfl

theorem tile02_eq : kernelRun0_A.sl.v502 c i arg2 harg2 arg3 harg3 arg4 harg4 arg5 harg5 arg6 harg6 arg7 harg7 arg8 harg8 arg9 harg9 arg10 harg10 x0 x1 x2 x3 x4 x5 x6 x7 x8 = (headRd i arg2 harg2 arg3 harg3 arg4 harg4 arg5 harg5 arg6 harg6 arg7 harg7 arg8 harg8 arg9 harg9 arg10 harg10 x0 x1 x2 x3 x4 x5 x6 x7 x8 0).o2 := by
  have e : kernelRun0_A.sl.v502 c i arg2 harg2 arg3 harg3 arg4 harg4 arg5 harg5 arg6 harg6 arg7 harg7 arg8 harg8 arg9 harg9 arg10 harg10 x0 x1 x2 x3 x4 x5 x6 x7 x8 =
      tile (headRd i arg2 harg2 arg3 harg3 arg4 harg4 arg5 harg5 arg6 harg6 arg7 harg7 arg8 harg8 arg9 harg9 arg10 harg10 x0 x1 x2 x3 x4 x5 x6 x7 x8 0).kt (headRd i arg2 harg2 arg3 harg3 arg4 harg4 arg5 harg5 arg6 harg6 arg7 harg7 arg8 harg8 arg9 harg9 arg10 harg10 x0 x1 x2 x3 x4 x5 x6 x7 x8 0).vt (headRd i arg2 harg2 arg3 harg3 arg4 harg4 arg5 harg5 arg6 harg6 arg7 harg7 arg8 harg8 arg9 harg9 arg10 harg10 x0 x1 x2 x3 x4 x5 x6 x7 x8 0).vs (kernelRun0_A.sl.v121 c arg5 harg5 arg9 harg9 x3 x7) (kernelRun0_A.sl.v233 c arg5 harg5 arg10 harg10 x3 x8)
        (rowScale (kernelRun0_A.sl.v114 c arg5 harg5 arg9 harg9 x3 x7) (headRd i arg2 harg2 arg3 harg3 arg4 harg4 arg5 harg5 arg6 harg6 arg7 harg7 arg8 harg8 arg9 harg9 arg10 harg10 x0 x1 x2 x3 x4 x5 x6 x7 x8 0).ks) (rowScale (kernelRun0_A.sl.v226 c arg5 harg5 arg10 harg10 x3 x8) (headRd i arg2 harg2 arg3 harg3 arg4 harg4 arg5 harg5 arg6 harg6 arg7 harg7 arg8 harg8 arg9 harg9 arg10 harg10 x0 x1 x2 x3 x4 x5 x6 x7 x8 0).ps)
        256 slices_S96x640_o0_256_S96x128 slices_S1x640_o0_256_S1x128 (headRd i arg2 harg2 arg3 harg3 arg4 harg4 arg5 harg5 arg6 harg6 arg7 harg7 arg8 harg8 arg9 harg9 arg10 harg10 x0 x1 x2 x3 x4 x5 x6 x7 x8 0).t0 (headRd i arg2 harg2 arg3 harg3 arg4 harg4 arg5 harg5 arg6 harg6 arg7 harg7 arg8 harg8 arg9 harg9 arg10 harg10 x0 x1 x2 x3 x4 x5 x6 x7 x8 0).t1 (headRd i arg2 harg2 arg3 harg3 arg4 harg4 arg5 harg5 arg6 harg6 arg7 harg7 arg8 harg8 arg9 harg9 arg10 harg10 x0 x1 x2 x3 x4 x5 x6 x7 x8 0).t2 (headRd i arg2 harg2 arg3 harg3 arg4 harg4 arg5 harg5 arg6 harg6 arg7 harg7 arg8 harg8 arg9 harg9 arg10 harg10 x0 x1 x2 x3 x4 x5 x6 x7 x8 0).t3 (headRd i arg2 harg2 arg3 harg3 arg4 harg4 arg5 harg5 arg6 harg6 arg7 harg7 arg8 harg8 arg9 harg9 arg10 harg10 x0 x1 x2 x3 x4 x5 x6 x7 x8 0).t4 (headRd i arg2 harg2 arg3 harg3 arg4 harg4 arg5 harg5 arg6 harg6 arg7 harg7 arg8 harg8 arg9 harg9 arg10 harg10 x0 x1 x2 x3 x4 x5 x6 x7 x8 0).t5 := rfl
  rw [e, cu0_eq c i arg2 harg2 arg3 harg3 arg4 harg4 arg5 harg5 arg6 harg6 arg7 harg7 arg8 harg8 arg9 harg9 arg10 harg10 x0 x1 x2 x3 x4 x5 x6 x7 x8, cw0_eq c i arg2 harg2 arg3 harg3 arg4 harg4 arg5 harg5 arg6 harg6 arg7 harg7 arg8 harg8 arg9 harg9 arg10 harg10 x0 x1 x2 x3 x4 x5 x6 x7 x8, su0_eq c i arg2 harg2 arg3 harg3 arg4 harg4 arg5 harg5 arg6 harg6 arg7 harg7 arg8 harg8 arg9 harg9 arg10 harg10 x0 x1 x2 x3 x4 x5 x6 x7 x8, sw0_eq c i arg2 harg2 arg3 harg3 arg4 harg4 arg5 harg5 arg6 harg6 arg7 harg7 arg8 harg8 arg9 harg9 arg10 harg10 x0 x1 x2 x3 x4 x5 x6 x7 x8]
  rfl

theorem tile03_eq : kernelRun0_A.sl.v577 c i arg2 harg2 arg3 harg3 arg4 harg4 arg5 harg5 arg6 harg6 arg7 harg7 arg8 harg8 arg9 harg9 arg10 harg10 x0 x1 x2 x3 x4 x5 x6 x7 x8 = (headRd i arg2 harg2 arg3 harg3 arg4 harg4 arg5 harg5 arg6 harg6 arg7 harg7 arg8 harg8 arg9 harg9 arg10 harg10 x0 x1 x2 x3 x4 x5 x6 x7 x8 0).o3 := by
  have e : kernelRun0_A.sl.v577 c i arg2 harg2 arg3 harg3 arg4 harg4 arg5 harg5 arg6 harg6 arg7 harg7 arg8 harg8 arg9 harg9 arg10 harg10 x0 x1 x2 x3 x4 x5 x6 x7 x8 =
      tile (headRd i arg2 harg2 arg3 harg3 arg4 harg4 arg5 harg5 arg6 harg6 arg7 harg7 arg8 harg8 arg9 harg9 arg10 harg10 x0 x1 x2 x3 x4 x5 x6 x7 x8 0).kt (headRd i arg2 harg2 arg3 harg3 arg4 harg4 arg5 harg5 arg6 harg6 arg7 harg7 arg8 harg8 arg9 harg9 arg10 harg10 x0 x1 x2 x3 x4 x5 x6 x7 x8 0).vt (headRd i arg2 harg2 arg3 harg3 arg4 harg4 arg5 harg5 arg6 harg6 arg7 harg7 arg8 harg8 arg9 harg9 arg10 harg10 x0 x1 x2 x3 x4 x5 x6 x7 x8 0).vs (kernelRun0_A.sl.v121 c arg5 harg5 arg9 harg9 x3 x7) (kernelRun0_A.sl.v233 c arg5 harg5 arg10 harg10 x3 x8)
        (rowScale (kernelRun0_A.sl.v114 c arg5 harg5 arg9 harg9 x3 x7) (headRd i arg2 harg2 arg3 harg3 arg4 harg4 arg5 harg5 arg6 harg6 arg7 harg7 arg8 harg8 arg9 harg9 arg10 harg10 x0 x1 x2 x3 x4 x5 x6 x7 x8 0).ks) (rowScale (kernelRun0_A.sl.v226 c arg5 harg5 arg10 harg10 x3 x8) (headRd i arg2 harg2 arg3 harg3 arg4 harg4 arg5 harg5 arg6 harg6 arg7 harg7 arg8 harg8 arg9 harg9 arg10 harg10 x0 x1 x2 x3 x4 x5 x6 x7 x8 0).ps)
        384 slices_S96x640_o0_384_S96x128 slices_S1x640_o0_384_S1x128 (headRd i arg2 harg2 arg3 harg3 arg4 harg4 arg5 harg5 arg6 harg6 arg7 harg7 arg8 harg8 arg9 harg9 arg10 harg10 x0 x1 x2 x3 x4 x5 x6 x7 x8 0).lo (headRd i arg2 harg2 arg3 harg3 arg4 harg4 arg5 harg5 arg6 harg6 arg7 harg7 arg8 harg8 arg9 harg9 arg10 harg10 x0 x1 x2 x3 x4 x5 x6 x7 x8 0).t0 (headRd i arg2 harg2 arg3 harg3 arg4 harg4 arg5 harg5 arg6 harg6 arg7 harg7 arg8 harg8 arg9 harg9 arg10 harg10 x0 x1 x2 x3 x4 x5 x6 x7 x8 0).t1 (headRd i arg2 harg2 arg3 harg3 arg4 harg4 arg5 harg5 arg6 harg6 arg7 harg7 arg8 harg8 arg9 harg9 arg10 harg10 x0 x1 x2 x3 x4 x5 x6 x7 x8 0).t2 (headRd i arg2 harg2 arg3 harg3 arg4 harg4 arg5 harg5 arg6 harg6 arg7 harg7 arg8 harg8 arg9 harg9 arg10 harg10 x0 x1 x2 x3 x4 x5 x6 x7 x8 0).t3 (headRd i arg2 harg2 arg3 harg3 arg4 harg4 arg5 harg5 arg6 harg6 arg7 harg7 arg8 harg8 arg9 harg9 arg10 harg10 x0 x1 x2 x3 x4 x5 x6 x7 x8 0).t4 := rfl
  rw [e, cu0_eq c i arg2 harg2 arg3 harg3 arg4 harg4 arg5 harg5 arg6 harg6 arg7 harg7 arg8 harg8 arg9 harg9 arg10 harg10 x0 x1 x2 x3 x4 x5 x6 x7 x8, cw0_eq c i arg2 harg2 arg3 harg3 arg4 harg4 arg5 harg5 arg6 harg6 arg7 harg7 arg8 harg8 arg9 harg9 arg10 harg10 x0 x1 x2 x3 x4 x5 x6 x7 x8, su0_eq c i arg2 harg2 arg3 harg3 arg4 harg4 arg5 harg5 arg6 harg6 arg7 harg7 arg8 harg8 arg9 harg9 arg10 harg10 x0 x1 x2 x3 x4 x5 x6 x7 x8, sw0_eq c i arg2 harg2 arg3 harg3 arg4 harg4 arg5 harg5 arg6 harg6 arg7 harg7 arg8 harg8 arg9 harg9 arg10 harg10 x0 x1 x2 x3 x4 x5 x6 x7 x8]
  rfl

theorem tile04_eq : kernelRun0_A.sl.v652 c i arg2 harg2 arg3 harg3 arg4 harg4 arg5 harg5 arg6 harg6 arg7 harg7 arg8 harg8 arg9 harg9 arg10 harg10 x0 x1 x2 x3 x4 x5 x6 x7 x8 = (headRd i arg2 harg2 arg3 harg3 arg4 harg4 arg5 harg5 arg6 harg6 arg7 harg7 arg8 harg8 arg9 harg9 arg10 harg10 x0 x1 x2 x3 x4 x5 x6 x7 x8 0).o4 := by
  have e : kernelRun0_A.sl.v652 c i arg2 harg2 arg3 harg3 arg4 harg4 arg5 harg5 arg6 harg6 arg7 harg7 arg8 harg8 arg9 harg9 arg10 harg10 x0 x1 x2 x3 x4 x5 x6 x7 x8 =
      tile (headRd i arg2 harg2 arg3 harg3 arg4 harg4 arg5 harg5 arg6 harg6 arg7 harg7 arg8 harg8 arg9 harg9 arg10 harg10 x0 x1 x2 x3 x4 x5 x6 x7 x8 0).kt (headRd i arg2 harg2 arg3 harg3 arg4 harg4 arg5 harg5 arg6 harg6 arg7 harg7 arg8 harg8 arg9 harg9 arg10 harg10 x0 x1 x2 x3 x4 x5 x6 x7 x8 0).vt (headRd i arg2 harg2 arg3 harg3 arg4 harg4 arg5 harg5 arg6 harg6 arg7 harg7 arg8 harg8 arg9 harg9 arg10 harg10 x0 x1 x2 x3 x4 x5 x6 x7 x8 0).vs (kernelRun0_A.sl.v121 c arg5 harg5 arg9 harg9 x3 x7) (kernelRun0_A.sl.v233 c arg5 harg5 arg10 harg10 x3 x8)
        (rowScale (kernelRun0_A.sl.v114 c arg5 harg5 arg9 harg9 x3 x7) (headRd i arg2 harg2 arg3 harg3 arg4 harg4 arg5 harg5 arg6 harg6 arg7 harg7 arg8 harg8 arg9 harg9 arg10 harg10 x0 x1 x2 x3 x4 x5 x6 x7 x8 0).ks) (rowScale (kernelRun0_A.sl.v226 c arg5 harg5 arg10 harg10 x3 x8) (headRd i arg2 harg2 arg3 harg3 arg4 harg4 arg5 harg5 arg6 harg6 arg7 harg7 arg8 harg8 arg9 harg9 arg10 harg10 x0 x1 x2 x3 x4 x5 x6 x7 x8 0).ps)
        512 slices_S96x640_o0_512_S96x128 slices_S1x640_o0_512_S1x128 (headRd i arg2 harg2 arg3 harg3 arg4 harg4 arg5 harg5 arg6 harg6 arg7 harg7 arg8 harg8 arg9 harg9 arg10 harg10 x0 x1 x2 x3 x4 x5 x6 x7 x8 0).lo (headRd i arg2 harg2 arg3 harg3 arg4 harg4 arg5 harg5 arg6 harg6 arg7 harg7 arg8 harg8 arg9 harg9 arg10 harg10 x0 x1 x2 x3 x4 x5 x6 x7 x8 0).lo (headRd i arg2 harg2 arg3 harg3 arg4 harg4 arg5 harg5 arg6 harg6 arg7 harg7 arg8 harg8 arg9 harg9 arg10 harg10 x0 x1 x2 x3 x4 x5 x6 x7 x8 0).t0 (headRd i arg2 harg2 arg3 harg3 arg4 harg4 arg5 harg5 arg6 harg6 arg7 harg7 arg8 harg8 arg9 harg9 arg10 harg10 x0 x1 x2 x3 x4 x5 x6 x7 x8 0).t1 (headRd i arg2 harg2 arg3 harg3 arg4 harg4 arg5 harg5 arg6 harg6 arg7 harg7 arg8 harg8 arg9 harg9 arg10 harg10 x0 x1 x2 x3 x4 x5 x6 x7 x8 0).t2 (headRd i arg2 harg2 arg3 harg3 arg4 harg4 arg5 harg5 arg6 harg6 arg7 harg7 arg8 harg8 arg9 harg9 arg10 harg10 x0 x1 x2 x3 x4 x5 x6 x7 x8 0).t3 := rfl
  rw [e, cu0_eq c i arg2 harg2 arg3 harg3 arg4 harg4 arg5 harg5 arg6 harg6 arg7 harg7 arg8 harg8 arg9 harg9 arg10 harg10 x0 x1 x2 x3 x4 x5 x6 x7 x8, cw0_eq c i arg2 harg2 arg3 harg3 arg4 harg4 arg5 harg5 arg6 harg6 arg7 harg7 arg8 harg8 arg9 harg9 arg10 harg10 x0 x1 x2 x3 x4 x5 x6 x7 x8, su0_eq c i arg2 harg2 arg3 harg3 arg4 harg4 arg5 harg5 arg6 harg6 arg7 harg7 arg8 harg8 arg9 harg9 arg10 harg10 x0 x1 x2 x3 x4 x5 x6 x7 x8, sw0_eq c i arg2 harg2 arg3 harg3 arg4 harg4 arg5 harg5 arg6 harg6 arg7 harg7 arg8 harg8 arg9 harg9 arg10 harg10 x0 x1 x2 x3 x4 x5 x6 x7 x8]
  rfl

end Cert.Proof

end
-- ==== Proof.Head1.lean ====
/- The output tiles of a grid step's head 1: each is the arithmetic of `Step` on that head's loads. -/
module

public import proofs.«01_k».proof.Proof.Pieces

@[expose] public section

set_option maxHeartbeats 1000000

noncomputable section

namespace Cert.Proof

open Idealize.ShloMosaic Idealize.ShloMosaic.TcCoe Idealize.SL.Sem Cert.KernelIdeal Cert.KernelIdeal.Gen

variable {F : FTy → Type} [FloatOps F] [Named F]
variable (c : Dev nD) (i : grid0.Coords) (arg2 : Memref sig .tc .smem S3x12 .f32) (harg2 : arg2.IsWhole) (arg3 : Memref sig .tc .smem S3x12 .f32) (harg3 : arg3.IsWhole) (arg4 : Memref sig .tc .smem S12 .f32) (harg4 : arg4.IsWhole) (arg5 : Memref sig .tc .vmem S1x4x96x640 .bf16) (harg5 : arg5.IsWhole) (arg6 : Memref sig .tc .vmem S1x4x96x640 .fp8e4m3) (harg6 : arg6.IsWhole) (arg7 : Memref sig .tc .vmem S1x4x96x640 .fp8e4m3) (harg7 : arg7.IsWhole) (arg8 : Memref sig .tc .vmem S4x96x769 .fp8e4m3) (harg8 : arg8.IsWhole) (arg9 : Memref sig .tc .vmem S4x96x1 .f32) (harg9 : arg9.IsWhole) (arg10 : Memref sig .tc .vmem S4x96x1 .f32) (harg10 : arg10.IsWhole) (arg11 : Memref sig .tc .vmem S1x640x384 .bf16) (harg11 : arg11.IsWhole) (arg12 : Memref sig .tc .vmem S1x4x96x640 .fp8e4m3) (harg12 : arg12.IsWhole) (arg13 : Memref sig .tc .vmem S1x1x4x640 .f32) (harg13 : arg13.IsWhole) (arg14 : Memref sig .tc .vmem S1x4x96x640 .fp8e4m3) (harg14 : arg14.IsWhole) (arg15 : Memref sig .tc .vmem S1x1x4x640 .f32) (harg15 : arg15.IsWhole)
  (x0 : Vec F S3x12 .f32) (x1 : Vec F S3x12 .f32) (x2 : Vec F S12 .f32) (x3 : Vec F S1x4x96x640 .bf16) (x4 : Vec F S1x4x96x640 .fp8e4m3) (x5 : Vec F S1x4x96x640 .fp8e4m3) (x6 : Vec F S4x96x769 .fp8e4m3) (x7 : Vec F S4x96x1 .f32) (x8 : Vec F S4x96x1 .f32)

theorem cu1_eq : kernelRun0_A.sl.v769 c arg5 harg5 arg9 harg9 x3 x7 = (headRd i arg2 harg2 arg3 harg3 arg4 harg4 arg5 harg5 arg6 harg6 arg7 harg7 arg8 harg8 arg9 harg9 arg10 harg10 x0 x1 x2 x3 x4 x5 x6 x7 x8 1).cu := rfl
theorem cw1_eq : kernelRun0_A.sl.v881 c arg5 harg5 arg10 harg10 x3 x8 = (headRd i arg2 harg2 arg3 harg3 arg4 harg4 arg5 harg5 arg6 harg6 arg7 harg7 arg8 harg8 arg9 harg9 arg10 harg10 x0 x1 x2 x3 x4 x5 x6 x7 x8 1).cw := rfl
theorem su1_eq : kernelRun0_A.sl.v762 c arg5 harg5 arg9 harg9 x3 x7 = (headRd i arg2 harg2 arg3 harg3 arg4 harg4 arg5 harg5 arg6 harg6 arg7 harg7 arg8 harg8 arg9 harg9 arg10 harg10 x0 x1 x2 x3 x4 x5 x6 x7 x8 1).su := rfl
theorem sw1_eq : kernelRun0_A.sl.v874 c arg5 harg5 arg10 harg10 x3 x8 = (headRd i arg2 harg2 arg3 harg3 arg4 harg4 arg5 harg5 arg6 harg6 arg7 harg7 arg8 harg8 arg9 harg9 arg10 harg10 x0 x1 x2 x3 x4 x5 x6 x7 x8 1).sw := rfl

theorem tile10_eq : kernelRun0_A.sl.v1000 c i arg2 harg2 arg3 harg3 arg4 harg4 arg5 harg5 arg6 harg6 arg7 harg7 arg8 harg8 arg9 harg9 arg10 harg10 x0 x1 x2 x3 x4 x5 x6 x7 x8 = (headRd i arg2 harg2 arg3 harg3 arg4 harg4 arg5 harg5 arg6 harg6 arg7 harg7 arg8 harg8 arg9 harg9 arg10 harg10 x0 x1 x2 x3 x4 x5 x6 x7 x8 1).o0 := by
  have e : kernelRun0_A.sl.v1000 c i arg2 harg2 arg3 harg3 arg4 harg4 arg5 harg5 arg6 harg6 arg7 harg7 arg8 harg8 arg9 harg9 arg10 harg10 x0 x1 x2 x3 x4 x5 x6 x7 x8 =
      tile (headRd i arg2 harg2 arg3 harg3 arg4 harg4 arg5 harg5 arg6 harg6 arg7 harg7 arg8 harg8 arg9 harg9 arg10 harg10 x0 x1 x2 x3 x4 x5 x6 x7 x8 1).kt (headRd i arg2 harg2 arg3 harg3 arg4 harg4 arg5 harg5 arg6 harg6 arg7 harg7 arg8 harg8 arg9 harg9 arg10 harg10 x0 x1 x2 x3 x4 x5 x6 x7 x8 1).vt (headRd i arg2 harg2 arg3 harg3 arg4 harg4 arg5 harg5 arg6 harg6 arg7 harg7 arg8 harg8 arg9 harg9 arg10 harg10 x0 x1 x2 x3 x4 x5 x6 x7 x8 1).vs (kernelRun0_A.sl.v769 c arg5 harg5 arg9 harg9 x3 x7) (kernelRun0_A.sl.v881 c arg5 harg5 arg10 harg10 x3 x8)
        (rowScale (kernelRun0_A.sl.v762 c arg5 harg5 arg9 harg9 x3 x7) (headRd i arg2 harg2 arg3 harg3 arg4 harg4 arg5 harg5 arg6 harg6 arg7 harg7 arg8 harg8 arg9 harg9 arg10 harg10 x0 x1 x2 x3 x4 x5 x6 x7 x8 1).ks) (rowScale (kernelRun0_A.sl.v874 c arg5 harg5 arg10 harg10 x3 x8) (headRd i arg2 harg2 arg3 harg3 arg4 harg4 arg5 harg5 arg6 harg6 arg7 harg7 arg8 harg8 arg9 harg9 arg10 harg10 x0 x1 x2 x3 x4 x5 x6 x7 x8 1).ps)
        0 slices_S96x640_o0_0_S96x128 slices_S1x640_o0_0_S1x128 (headRd i arg2 harg2 arg3 harg3 arg4 harg4 arg5 harg5 arg6 harg6 arg7 harg7 arg8 harg8 arg9 harg9 arg10 harg10 x0 x1 x2 x3 x4 x5 x6 x7 x8 1).t2 (headRd i arg2 harg2 arg3 harg3 arg4 harg4 arg5 harg5 arg6 harg6 arg7 harg7 arg8 harg8 arg9 harg9 arg10 harg10 x0 x1 x2 x3 x4 x5 x6 x7 x8 1).t3 (headRd i arg2 harg2 arg3 harg3 arg4 harg4 arg5 harg5 arg6 harg6 arg7 harg7 arg8 harg8 arg9 harg9 arg10 harg10 x0 x1 x2 x3 x4 x5 x6 x7 x8 1).t4 (headRd i arg2 harg2 arg3 harg3 arg4 harg4 arg5 harg5 arg6 harg6 arg7 harg7 arg8 harg8 arg9 harg9 arg10 harg10 x0 x1 x2 x3 x4 x5 x6 x7 x8 1).t5 (headRd i arg2 harg2 arg3 harg3 arg4 harg4 arg5 harg5 arg6 harg6 arg7 harg7 arg8 harg8 arg9 harg9 arg10 harg10 x0 x1 x2 x3 x4 x5 x6 x7 x8 1).hi (headRd i arg2 harg2 arg3 harg3 arg4 harg4 arg5 harg5 arg6 harg6 arg7 harg7 arg8 harg8 arg9 harg9 arg10 harg10 x0 x1 x2 x3 x4 x5 x6 x7 x8 1).hi := rfl
  rw [e, cu1_eq c i arg2 harg2 arg3 harg3 arg4 harg4 arg5 harg5 arg6 harg6 arg7 harg7 arg8 harg8 arg9 harg9 arg10 harg10 x0 x1 x2 x3 x4 x5 x6 x7 x8, cw1_eq c i arg2 harg2 arg3 harg3 arg4 harg4 arg5 harg5 arg6 harg6 arg7 harg7 arg8 harg8 arg9 harg9 arg10 harg10 x0 x1 x2 x3 x4 x5 x6 x7 x8, su1_eq c i arg2 harg2 arg3 harg3 arg4 harg4 arg5 harg5 arg6 harg6 arg7 harg7 arg8 harg8 arg9 harg9 arg10 harg10 x0 x1 x2 x3 x4 x5 x6 x7 x8, sw1_eq c i arg2 harg2 arg3 harg3 arg4 harg4 arg5 harg5 arg6 harg6 arg7 harg7 arg8 harg8 arg9 harg9 arg10 harg10 x0 x1 x2 x3 x4 x5 x6 x7 x8]
  rfl

theorem tile11_eq : kernelRun0_A.sl.v1075 c i arg2 harg2 arg3 harg3 arg4 harg4 arg5 harg5 arg6 harg6 arg7 harg7 arg8 harg8 arg9 harg9 arg10 harg10 x0 x1 x2 x3 x4 x5 x6 x7 x8 = (headRd i arg2 harg2 arg3 harg3 arg4 harg4 arg5 harg5 arg6 harg6 arg7 harg7 arg8 harg8 arg9 harg9 arg10 harg10 x0 x1 x2 x3 x4 x5 x6 x7 x8 1).o1 := by
  have e : kernelRun0_A.sl.v1075 c i arg2 harg2 arg3 harg3 arg4 harg4 arg5 harg5 arg6 harg6 arg7 harg7 arg8 harg8 arg9 harg9 arg10 harg10 x0 x1 x2 x3 x4 x5 x6 x7 x8 =
      tile (headRd i arg2 harg2 arg3 harg3 arg4 harg4 arg5 harg5 arg6 harg6 arg7 harg7 arg8 harg8 arg9 harg9 arg10 harg10 x0 x1 x2 x3 x4 x5 x6 x7 x8 1).kt (headRd i arg2 harg2 arg3 harg3 arg4 harg4 arg5 harg5 arg6 harg6 arg7 harg7 arg8 harg8 arg9 harg9 arg10 harg10 x0 x1 x2 x3 x4 x5 x6 x7 x8 1).vt (headRd i arg2 harg2 arg3 harg3 arg4 harg4 arg5 harg5 arg6 harg6 arg7 harg7 arg8 harg8 arg9 harg9 arg10 harg10 x0 x1 x2 x3 x4 x5 x6 x7 x8 1).vs (kernelRun0_A.sl.v769 c arg5 harg5 arg9 harg9 x3 x7) (kernelRun0_A.sl.v881 c arg5 harg5 arg10 harg10 x3 x8)
        (rowScale (kernelRun0_A.sl.v762 c arg5 harg5 arg9 harg9 x3 x7) (headRd i arg2 harg2 arg3 harg3 arg4 harg4 arg5 harg5 arg6 harg6 arg7 harg7 arg8 harg8 arg9 harg9 arg10 harg10 x0 x1 x2 x3 x4 x5 x6 x7 x8 1).ks) (rowScale (kernelRun0_A.sl.v874 c arg5 harg5 arg10 harg10 x3 x8) (headRd i arg2 harg2 arg3 harg3 arg4 harg4 arg5 harg5 arg6 harg6 arg7 harg7 arg8 harg8 arg9 harg9 arg10 harg10 x0 x1 x2 x3 x4 x5 x6 x7 x8 1).ps)
        128 slices_S96x640_o0_128_S96x128 slices_S1x640_o0_128_S1x128 (headRd i arg2 harg2 arg3 harg3 arg4 harg4 arg5 harg5 arg6 harg6 arg7 harg7 arg8 harg8 arg9 harg9 arg10 harg10 x0 x1 x2 x3 x4 x5 x6 x7 x8 1).t1 (headRd i arg2 harg2 arg3 harg3 arg4 harg4 arg5 harg5 arg6 harg6 arg7 harg7 arg8 harg8 arg9 harg9 arg10 harg10 x0 x1 x2 x3 x4 x5 x6 x7 x8 1).t2 (headRd i arg2 harg2 arg3 harg3 arg4 harg4 arg5 harg5 arg6 harg6 arg7 harg7 arg8 harg8 arg9 harg9 arg10 harg10 x0 x1 x2 x3 x4 x5 x6 x7 x8 1).t3 (headRd i arg2 harg2 arg3 harg3 arg4 harg4 arg5 harg5 arg6 harg6 arg7 harg7 arg8 harg8 arg9 harg9 arg10 harg10 x0 x1 x2 x3 x4 x5 x6 x7 x8 1).t4 (headRd i arg2 harg2 arg3 harg3 arg4 harg4 arg5 harg5 arg6 harg6 arg7 harg7 arg8 harg8 arg9 harg9 arg10 harg10 x0 x1 x2 x3 x4 x5 x6 x7 x8 1).t5 (headRd i arg2 harg2 arg3 harg3 arg4 harg4 arg5 harg5 arg6 harg6 arg7 harg7 arg8 harg8 arg9 harg9 arg10 harg10 x0 x1 x2 x3 x4 x5 x6 x7 x8 1).hi := rfl
  rw [e, cu1_eq c i arg2 harg2 arg3 harg3 arg4 harg4 arg5 harg5 arg6 harg6 arg7 harg7 arg8 harg8 arg9 harg9 arg10 harg10 x0 x1 x2 x3 x4 x5 x6 x7 x8, cw1_eq c i arg2 harg2 arg3 harg3 arg4 harg4 arg5 harg5 arg6 harg6 arg7 harg7 arg8 harg8 arg9 harg9 arg10 harg10 x0 x1 x2 x3 x4 x5 x6 x7 x8, su1_eq c i arg2 harg2 arg3 harg3 arg4 harg4 arg5 harg5 arg6 harg6 arg7 harg7 arg8 harg8 arg9 harg9 arg10 harg10 x0 x1 x2 x3 x4 x5 x6 x7 x8, sw1_eq c i arg2 harg2 arg3 harg3 arg4 harg4 arg5 harg5 arg6 harg6 arg7 harg7 arg8 harg8 arg9 harg9 arg10 harg10 x0 x1 x2 x3 x4 x5 x6 x7 x8]
  rfl

theorem tile12_eq : kernelRun0_A.sl.v1150 c i arg2 harg2 arg3 harg3 arg4 harg4 arg5 harg5 arg6 harg6 arg7 harg7 arg8 harg8 arg9 harg9 arg10 harg10 x0 x1 x2 x3 x4 x5 x6 x7 x8 = (headRd i arg2 harg2 arg3 harg3 arg4 harg4 arg5 harg5 arg6 harg6 arg7 harg7 arg8 harg8 arg9 harg9 arg10 harg10 x0 x1 x2 x3 x4 x5 x6 x7 x8 1).o2 := by
  have e : kernelRun0_A.sl.v1150 c i arg2 harg2 arg3 harg3 arg4 harg4 arg5 harg5 arg6 harg6 arg7 harg7 arg8 harg8 arg9 harg9 arg10 harg10 x0 x1 x2 x3 x4 x5 x6 x7 x8 =
      tile (headRd i arg2 harg2 arg3 harg3 arg4 harg4 arg5 harg5 arg6 harg6 arg7 harg7 arg8 harg8 arg9 harg9 arg10 harg10 x0 x1 x2 x3 x4 x5 x6 x7 x8 1).kt (headRd i arg2 harg2 arg3 harg3 arg4 harg4 arg5 harg5 arg6 harg6 arg7 harg7 arg8 harg8 arg9 harg9 arg10 harg10 x0 x1 x2 x3 x4 x5 x6 x7 x8 1).vt (headRd i arg2 harg2 arg3 harg3 arg4 harg4 arg5 harg5 arg6 harg6 arg7 harg7 arg8 harg8 arg9 harg9 arg10 harg10 x0 x1 x2 x3 x4 x5 x6 x7 x8 1).vs (kernelRun0_A.sl.v769 c arg5 harg5 arg9 harg9 x3 x7) (kernelRun0_A.sl.v881 c arg5 harg5 arg10 harg10 x3 x8)
        (rowScale (kernelRun0_A.sl.v762 c arg5 harg5 arg9 harg9 x3 x7) (headRd i arg2 harg2 arg3 harg3 arg4 harg4 arg5 harg5 arg6 harg6 arg7 harg7 arg8 harg8 arg9 harg9 arg10 harg10 x0 x1 x2 x3 x4 x5 x6 x7 x8 1).ks) (rowScale (kernelRun0_A.sl.v874 c arg5 harg5 arg10 harg10 x3 x8) (headRd i arg2 harg2 arg3 harg3 arg4 harg4 arg5 harg5 arg6 harg6 arg7 harg7 arg8 harg8 arg9 harg9 arg10 harg10 x0 x1 x2 x3 x4 x5 x6 x7 x8 1).ps)
        256 slices_S96x640_o0_256_S96x128 slices_S1x640_o0_256_S1x128 (headRd i arg2 harg2 arg3 harg3 arg4 harg4 arg5 harg5 arg6 harg6 arg7 harg7 arg8 harg8 arg9 harg9 arg10 harg10 x0 x1 x2 x3 x4 x5 x6 x7 x8 1).t0 (headRd i arg2 harg2 arg3 harg3 arg4 harg4 arg5 harg5 arg6 harg6 arg7 harg7 arg8 harg8 arg9 harg9 arg10 harg10 x0 x1 x2 x3 x4 x5 x6 x7 x8 1).t1 (headRd i arg2 harg2 arg3 harg3 arg4 harg4 arg5 harg5 arg6 harg6 arg7 harg7 arg8 harg8 arg9 harg9 arg10 harg10 x0 x1 x2 x3 x4 x5 x6 x7 x8 1).t2 (headRd i arg2 harg2 arg3 harg3 arg4 harg4 arg5 harg5 arg6 harg6 arg7 harg7 arg8 harg8 arg9 harg9 arg10 harg10 x0 x1 x2 x3 x4 x5 x6 x7 x8 1).t3 (headRd i arg2 harg2 arg3 harg3 arg4 harg4 arg5 harg5 arg6 harg6 arg7 harg7 arg8 harg8 arg9 harg9 arg10 harg10 x0 x1 x2 x3 x4 x5 x6 x7 x8 1).t4 (headRd i arg2 harg2 arg3 harg3 arg4 harg4 arg5 harg5 arg6 harg6 arg7 harg7 arg8 harg8 arg9 harg9 arg10 harg10 x0 x1 x2 x3 x4 x5 x6 x7 x8 1).t5 := rfl
  rw [e, cu1_eq c i arg2 harg2 arg3 harg3 arg4 harg4 arg5 harg5 arg6 harg6 arg7 harg7 arg8 harg8 arg9 harg9 arg10 harg10 x0 x1 x2 x3 x4 x5 x6 x7 x8, cw1_eq c i arg2 harg2 arg3 harg3 arg4 harg4 arg5 harg5 arg6 harg6 arg7 harg7 arg8 harg8 arg9 harg9 arg10 harg10 x0 x1 x2 x3 x4 x5 x6 x7 x8, su1_eq c i arg2 harg2 arg3 harg3 arg4 harg4 arg5 harg5 arg6 harg6 arg7 harg7 arg8 harg8 arg9 harg9 arg10 harg10 x0 x1 x2 x3 x4 x5 x6 x7 x8, sw1_eq c i arg2 harg2 arg3 harg3 arg4 harg4 arg5 harg5 arg6 harg6 arg7 harg7 arg8 harg8 arg9 harg9 arg10 harg10 x0 x1 x2 x3 x4 x5 x6 x7 x8]
  rfl

theorem tile13_eq : kernelRun0_A.sl.v1225 c i arg2 harg2 arg3 harg3 arg4 harg4 arg5 harg5 arg6 harg6 arg7 harg7 arg8 harg8 arg9 harg9 arg10 harg10 x0 x1 x2 x3 x4 x5 x6 x7 x8 = (headRd i arg2 harg2 arg3 harg3 arg4 harg4 arg5 harg5 arg6 harg6 arg7 harg7 arg8 harg8 arg9 harg9 arg10 harg10 x0 x1 x2 x3 x4 x5 x6 x7 x8 1).o3 := by
  have e : kernelRun0_A.sl.v1225 c i arg2 harg2 arg3 harg3 arg4 harg4 arg5 harg5 arg6 harg6 arg7 harg7 arg8 harg8 arg9 harg9 arg10 harg10 x0 x1 x2 x3 x4 x5 x6 x7 x8 =
      tile (headRd i arg2 harg2 arg3 harg3 arg4 harg4 arg5 harg5 arg6 harg6 arg7 harg7 arg8 harg8 arg9 harg9 arg10 harg10 x0 x1 x2 x3 x4 x5 x6 x7 x8 1).kt (headRd i arg2 harg2 arg3 harg3 arg4 harg4 arg5 harg5 arg6 harg6 arg7 harg7 arg8 harg8 arg9 harg9 arg10 harg10 x0 x1 x2 x3 x4 x5 x6 x7 x8 1).vt (headRd i arg2 harg2 arg3 harg3 arg4 harg4 arg5 harg5 arg6 harg6 arg7 harg7 arg8 harg8 arg9 harg9 arg10 harg10 x0 x1 x2 x3 x4 x5 x6 x7 x8 1).vs (kernelRun0_A.sl.v769 c arg5 harg5 arg9 harg9 x3 x7) (kernelRun0_A.sl.v881 c arg5 harg5 arg10 harg10 x3 x8)
        (rowScale (kernelRun0_A.sl.v762 c arg5 harg5 arg9 harg9 x3 x7) (headRd i arg2 harg2 arg3 harg3 arg4 harg4 arg5 harg5 arg6 harg6 arg7 harg7 arg8 harg8 arg9 harg9 arg10 harg10 x0 x1 x2 x3 x4 x5 x6 x7 x8 1).ks) (rowScale (kernelRun0_A.sl.v874 c arg5 harg5 arg10 harg10 x3 x8) (headRd i arg2 harg2 arg3 harg3 arg4 harg4 arg5 harg5 arg6 harg6 arg7 harg7 arg8 harg8 arg9 harg9 arg10 harg10 x0 x1 x2 x3 x4 x5 x6 x7 x8 1).ps)
        384 slices_S96x640_o0_384_S96x128 slices_S1x640_o0_384_S1x128 (headRd i arg2 harg2 arg3 harg3 arg4 harg4 arg5 harg5 arg6 harg6 arg7 harg7 arg8 harg8 arg9 harg9 arg10 harg10 x0 x1 x2 x3 x4 x5 x6 x7 x8 1).lo (headRd i arg2 harg2 arg3 harg3 arg4 harg4 arg5 harg5 arg6 harg6 arg7 harg7 arg8 harg8 arg9 harg9 arg10 harg10 x0 x1 x2 x3 x4 x5 x6 x7 x8 1).t0 (headRd i arg2 harg2 arg3 harg3 arg4 harg4 arg5 harg5 arg6 harg6 arg7 harg7 arg8 harg8 arg9 harg9 arg10 harg10 x0 x1 x2 x3 x4 x5 x6 x7 x8 1).t1 (headRd i arg2 harg2 arg3 harg3 arg4 harg4 arg5 harg5 arg6 harg6 arg7 harg7 arg8 harg8 arg9 harg9 arg10 harg10 x0 x1 x2 x3 x4 x5 x6 x7 x8 1).t2 (headRd i arg2 harg2 arg3 harg3 arg4 harg4 arg5 harg5 arg6 harg6 arg7 harg7 arg8 harg8 arg9 harg9 arg10 harg10 x0 x1 x2 x3 x4 x5 x6 x7 x8 1).t3 (headRd i arg2 harg2 arg3 harg3 arg4 harg4 arg5 harg5 arg6 harg6 arg7 harg7 arg8 harg8 arg9 harg9 arg10 harg10 x0 x1 x2 x3 x4 x5 x6 x7 x8 1).t4 := rfl
  rw [e, cu1_eq c i arg2 harg2 arg3 harg3 arg4 harg4 arg5 harg5 arg6 harg6 arg7 harg7 arg8 harg8 arg9 harg9 arg10 harg10 x0 x1 x2 x3 x4 x5 x6 x7 x8, cw1_eq c i arg2 harg2 arg3 harg3 arg4 harg4 arg5 harg5 arg6 harg6 arg7 harg7 arg8 harg8 arg9 harg9 arg10 harg10 x0 x1 x2 x3 x4 x5 x6 x7 x8, su1_eq c i arg2 harg2 arg3 harg3 arg4 harg4 arg5 harg5 arg6 harg6 arg7 harg7 arg8 harg8 arg9 harg9 arg10 harg10 x0 x1 x2 x3 x4 x5 x6 x7 x8, sw1_eq c i arg2 harg2 arg3 harg3 arg4 harg4 arg5 harg5 arg6 harg6 arg7 harg7 arg8 harg8 arg9 harg9 arg10 harg10 x0 x1 x2 x3 x4 x5 x6 x7 x8]
  rfl

theorem tile14_eq : kernelRun0_A.sl.v1300 c i arg2 harg2 arg3 harg3 arg4 harg4 arg5 harg5 arg6 harg6 arg7 harg7 arg8 harg8 arg9 harg9 arg10 harg10 x0 x1 x2 x3 x4 x5 x6 x7 x8 = (headRd i arg2 harg2 arg3 harg3 arg4 harg4 arg5 harg5 arg6 harg6 arg7 harg7 arg8 harg8 arg9 harg9 arg10 harg10 x0 x1 x2 x3 x4 x5 x6 x7 x8 1).o4 := by
  have e : kernelRun0_A.sl.v1300 c i arg2 harg2 arg3 harg3 arg4 harg4 arg5 harg5 arg6 harg6 arg7 harg7 arg8 harg8 arg9 harg9 arg10 harg10 x0 x1 x2 x3 x4 x5 x6 x7 x8 =
      tile (headRd i arg2 harg2 arg3 harg3 arg4 harg4 arg5 harg5 arg6 harg6 arg7 harg7 arg8 harg8 arg9 harg9 arg10 harg10 x0 x1 x2 x3 x4 x5 x6 x7 x8 1).kt (headRd i arg2 harg2 arg3 harg3 arg4 harg4 arg5 harg5 arg6 harg6 arg7 harg7 arg8 harg8 arg9 harg9 arg10 harg10 x0 x1 x2 x3 x4 x5 x6 x7 x8 1).vt (headRd i arg2 harg2 arg3 harg3 arg4 harg4 arg5 harg5 arg6 harg6 arg7 harg7 arg8 harg8 arg9 harg9 arg10 harg10 x0 x1 x2 x3 x4 x5 x6 x7 x8 1).vs (kernelRun0_A.sl.v769 c arg5 harg5 arg9 harg9 x3 x7) (kernelRun0_A.sl.v881 c arg5 harg5 arg10 harg10 x3 x8)
        (rowScale (kernelRun0_A.sl.v762 c arg5 harg5 arg9 harg9 x3 x7) (headRd i arg2 harg2 arg3 harg3 arg4 harg4 arg5 harg5 arg6 harg6 arg7 harg7 arg8 harg8 arg9 harg9 arg10 harg10 x0 x1 x2 x3 x4 x5 x6 x7 x8 1).ks) (rowScale (kernelRun0_A.sl.v874 c arg5 harg5 arg10 harg10 x3 x8) (headRd i arg2 harg2 arg3 harg3 arg4 harg4 arg5 harg5 arg6 harg6 arg7 harg7 arg8 harg8 arg9 harg9 arg10 harg10 x0 x1 x2 x3 x4 x5 x6 x7 x8 1).ps)
        512 slices_S96x640_o0_512_S96x128 slices_S1x640_o0_512_S1x128 (headRd i arg2 harg2 arg3 harg3 arg4 harg4 arg5 harg5 arg6 harg6 arg7 harg7 arg8 harg8 arg9 harg9 arg10 harg10 x0 x1 x2 x3 x4 x5 x6 x7 x8 1).lo (headRd i arg2 harg2 arg3 harg3 arg4 harg4 arg5 harg5 arg6 harg6 arg7 harg7 arg8 harg8 arg9 harg9 arg10 harg10 x0 x1 x2 x3 x4 x5 x6 x7 x8 1).lo (headRd i arg2 harg2 arg3 harg3 arg4 harg4 arg5 harg5 arg6 harg6 arg7 harg7 arg8 harg8 arg9 harg9 arg10 harg10 x0 x1 x2 x3 x4 x5 x6 x7 x8 1).t0 (headRd i arg2 harg2 arg3 harg3 arg4 harg4 arg5 harg5 arg6 harg6 arg7 harg7 arg8 harg8 arg9 harg9 arg10 harg10 x0 x1 x2 x3 x4 x5 x6 x7 x8 1).t1 (headRd i arg2 harg2 arg3 harg3 arg4 harg4 arg5 harg5 arg6 harg6 arg7 harg7 arg8 harg8 arg9 harg9 arg10 harg10 x0 x1 x2 x3 x4 x5 x6 x7 x8 1).t2 (headRd i arg2 harg2 arg3 harg3 arg4 harg4 arg5 harg5 arg6 harg6 arg7 harg7 arg8 harg8 arg9 harg9 arg10 harg10 x0 x1 x2 x3 x4 x5 x6 x7 x8 1).t3 := rfl
  rw [e, cu1_eq c i arg2 harg2 arg3 harg3 arg4 harg4 arg5 harg5 arg6 harg6 arg7 harg7 arg8 harg8 arg9 harg9 arg10 harg10 x0 x1 x2 x3 x4 x5 x6 x7 x8, cw1_eq c i arg2 harg2 arg3 harg3 arg4 harg4 arg5 harg5 arg6 harg6 arg7 harg7 arg8 harg8 arg9 harg9 arg10 harg10 x0 x1 x2 x3 x4 x5 x6 x7 x8, su1_eq c i arg2 harg2 arg3 harg3 arg4 harg4 arg5 harg5 arg6 harg6 arg7 harg7 arg8 harg8 arg9 harg9 arg10 harg10 x0 x1 x2 x3 x4 x5 x6 x7 x8, sw1_eq c i arg2 harg2 arg3 harg3 arg4 harg4 arg5 harg5 arg6 harg6 arg7 harg7 arg8 harg8 arg9 harg9 arg10 harg10 x0 x1 x2 x3 x4 x5 x6 x7 x8]
  rfl

end Cert.Proof

end
-- ==== Proof.Head2.lean ====
/- The output tiles of a grid step's head 2: each is the arithmetic of `Step` on that head's loads. -/
module

public import proofs.«01_k».proof.Proof.Pieces

@[expose] public section

set_option maxHeartbeats 1000000

noncomputable section

namespace Cert.Proof

open Idealize.ShloMosaic Idealize.ShloMosaic.TcCoe Idealize.SL.Sem Cert.KernelIdeal Cert.KernelIdeal.Gen

variable {F : FTy → Type} [FloatOps F] [Named F]
variable (c : Dev nD) (i : grid0.Coords) (arg2 : Memref sig .tc .smem S3x12 .f32) (harg2 : arg2.IsWhole) (arg3 : Memref sig .tc .smem S3x12 .f32) (harg3 : arg3.IsWhole) (arg4 : Memref sig .tc .smem S12 .f32) (harg4 : arg4.IsWhole) (arg5 : Memref sig .tc .vmem S1x4x96x640 .bf16) (harg5 : arg5.IsWhole) (arg6 : Memref sig .tc .vmem S1x4x96x640 .fp8e4m3) (harg6 : arg6.IsWhole) (arg7 : Memref sig .tc .vmem S1x4x96x640 .fp8e4m3) (harg7 : arg7.IsWhole) (arg8 : Memref sig .tc .vmem S4x96x769 .fp8e4m3) (harg8 : arg8.IsWhole) (arg9 : Memref sig .tc .vmem S4x96x1 .f32) (harg9 : arg9.IsWhole) (arg10 : Memref sig .tc .vmem S4x96x1 .f32) (harg10 : arg10.IsWhole) (arg11 : Memref sig .tc .vmem S1x640x384 .bf16) (harg11 : arg11.IsWhole) (arg12 : Memref sig .tc .vmem S1x4x96x640 .fp8e4m3) (harg12 : arg12.IsWhole) (arg13 : Memref sig .tc .vmem S1x1x4x640 .f32) (harg13 : arg13.IsWhole) (arg14 : Memref sig .tc .vmem S1x4x96x640 .fp8e4m3) (harg14 : arg14.IsWhole) (arg15 : Memref sig .tc .vmem S1x1x4x640 .f32) (harg15 : arg15.IsWhole)
  (x0 : Vec F S3x12 .f32) (x1 : Vec F S3x12 .f32) (x2 : Vec F S12 .f32) (x3 : Vec F S1x4x96x640 .bf16) (x4 : Vec F S1x4x96x640 .fp8e4m3) (x5 : Vec F S1x4x96x640 .fp8e4m3) (x6 : Vec F S4x96x769 .fp8e4m3) (x7 : Vec F S4x96x1 .f32) (x8 : Vec F S4x96x1 .f32)

theorem cu2_eq : kernelRun0_A.sl.v1417 c arg5 harg5 arg9 harg9 x3 x7 = (headRd i arg2 harg2 arg3 harg3 arg4 harg4 arg5 harg5 arg6 harg6 arg7 harg7 arg8 harg8 arg9 harg9 arg10 harg10 x0 x1 x2 x3 x4 x5 x6 x7 x8 2).cu := rfl
theorem cw2_eq : kernelRun0_A.sl.v1529 c arg5 harg5 arg10 harg10 x3 x8 = (headRd i arg2 harg2 arg3 harg3 arg4 harg4 arg5 harg5 arg6 harg6 arg7 harg7 arg8 harg8 arg9 harg9 arg10 harg10 x0 x1 x2 x3 x4 x5 x6 x7 x8 2).cw := rfl
theorem su2_eq : kernelRun0_A.sl.v1410 c arg5 harg5 arg9 harg9 x3 x7 = (headRd i arg2 harg2 arg3 harg3 arg4 harg4 arg5 harg5 arg6 harg6 arg7 harg7 arg8 harg8 arg9 harg9 arg10 harg10 x0 x1 x2 x3 x4 x5 x6 x7 x8 2).su := rfl
theorem sw2_eq : kernelRun0_A.sl.v1522 c arg5 harg5 arg10 harg10 x3 x8 = (headRd i arg2 harg2 arg3 harg3 arg4 harg4 arg5 harg5 arg6 harg6 arg7 harg7 arg8 harg8 arg9 harg9 arg10 harg10 x0 x1 x2 x3 x4 x5 x6 x7 x8 2).sw := rfl

theorem tile20_eq : kernelRun0_A.sl.v1648 c i arg2 harg2 arg3 harg3 arg4 harg4 arg5 harg5 arg6 harg6 arg7 harg7 arg8 harg8 arg9 harg9 arg10 harg10 x0 x1 x2 x3 x4 x5 x6 x7 x8 = (headRd i arg2 harg2 arg3 harg3 arg4 harg4 arg5 harg5 arg6 harg6 arg7 harg7 arg8 harg8 arg9 harg9 arg10 harg10 x0 x1 x2 x3 x4 x5 x6 x7 x8 2).o0 := by
  have e : kernelRun0_A.sl.v1648 c i arg2 harg2 arg3 harg3 arg4 harg4 arg5 harg5 arg6 harg6 arg7 harg7 arg8 harg8 arg9 harg9 arg10 harg10 x0 x1 x2 x3 x4 x5 x6 x7 x8 =
      tile (headRd i arg2 harg2 arg3 harg3 arg4 harg4 arg5 harg5 arg6 harg6 arg7 harg7 arg8 harg8 arg9 harg9 arg10 harg10 x0 x1 x2 x3 x4 x5 x6 x7 x8 2).kt (headRd i arg2 harg2 arg3 harg3 arg4 harg4 arg5 harg5 arg6 harg6 arg7 harg7 arg8 harg8 arg9 harg9 arg10 harg10 x0 x1 x2 x3 x4 x5 x6 x7 x8 2).vt (headRd i arg2 harg2 arg3 harg3 arg4 harg4 arg5 harg5 arg6 harg6 arg7 harg7 arg8 harg8 arg9 harg9 arg10 harg10 x0 x1 x2 x3 x4 x5 x6 x7 x8 2).vs (kernelRun0_A.sl.v1417 c arg5 harg5 arg9 harg9 x3 x7) (kernelRun0_A.sl.v1529 c arg5 harg5 arg10 harg10 x3 x8)
        (rowScale (kernelRun0_A.sl.v1410 c arg5 harg5 arg9 harg9 x3 x7) (headRd i arg2 harg2 arg3 harg3 arg4 harg4 arg5 harg5 arg6 harg6 arg7 harg7 arg8 harg8 arg9 harg9 arg10 harg10 x0 x1 x2 x3 x4 x5 x6 x7 x8 2).ks) (rowScale (kernelRun0_A.sl.v1522 c arg5 harg5 arg10 harg10 x3 x8) (headRd i arg2 harg2 arg3 harg3 arg4 harg4 arg5 harg5 arg6 harg6 arg7 harg7 arg8 harg8 arg9 harg9 arg10 harg10 x0 x1 x2 x3 x4 x5 x6 x7 x8 2).ps)
        0 slices_S96x640_o0_0_S96x128 slices_S1x640_o0_0_S1x128 (headRd i arg2 harg2 arg3 harg3 arg4 harg4 arg5 harg5 arg6 harg6 arg7 harg7 arg8 harg8 arg9 harg9 arg10 harg10 x0 x1 x2 x3 x4 x5 x6 x7 x8 2).t2 (headRd i arg2 harg2 arg3 harg3 arg4 harg4 arg5 harg5 arg6 harg6 arg7 harg7 arg8 harg8 arg9 harg9 arg10 harg10 x0 x1 x2 x3 x4 x5 x6 x7 x8 2).t3 (headRd i arg2 harg2 arg3 harg3 arg4 harg4 arg5 harg5 arg6 harg6 arg7 harg7 arg8 harg8 arg9 harg9 arg10 harg10 x0 x1 x2 x3 x4 x5 x6 x7 x8 2).t4 (headRd i arg2 harg2 arg3 harg3 arg4 harg4 arg5 harg5 arg6 harg6 arg7 harg7 arg8 harg8 arg9 harg9 arg10 harg10 x0 x1 x2 x3 x4 x5 x6 x7 x8 2).t5 (headRd i arg2 harg2 arg3 harg3 arg4 harg4 arg5 harg5 arg6 harg6 arg7 harg7 arg8 harg8 arg9 harg9 arg10 harg10 x0 x1 x2 x3 x4 x5 x6 x7 x8 2).hi (headRd i arg2 harg2 arg3 harg3 arg4 harg4 arg5 harg5 arg6 harg6 arg7 harg7 arg8 harg8 arg9 harg9 arg10 harg10 x0 x1 x2 x3 x4 x5 x6 x7 x8 2).hi := rfl
  rw [e, cu2_eq c i arg2 harg2 arg3 harg3 arg4 harg4 arg5 harg5 arg6 harg6 arg7 harg7 arg8 harg8 arg9 harg9 arg10 harg10 x0 x1 x2 x3 x4 x5 x6 x7 x8, cw2_eq c i arg2 harg2 arg3 harg3 arg4 harg4 arg5 harg5 arg6 harg6 arg7 harg7 arg8 harg8 arg9 harg9 arg10 harg10 x0 x1 x2 x3 x4 x5 x6 x7 x8, su2_eq c i arg2 harg2 arg3 harg3 arg4 harg4 arg5 harg5 arg6 harg6 arg7 harg7 arg8 harg8 arg9 harg9 arg10 harg10 x0 x1 x2 x3 x4 x5 x6 x7 x8, sw2_eq c i arg2 harg2 arg3 harg3 arg4 harg4 arg5 harg5 arg6 harg6 arg7 harg7 arg8 harg8 arg9 harg9 arg10 harg10 x0 x1 x2 x3 x4 x5 x6 x7 x8]
  rfl

theorem tile21_eq : kernelRun0_A.sl.v1723 c i arg2 harg2 arg3 harg3 arg4 harg4 arg5 harg5 arg6 harg6 arg7 harg7 arg8 harg8 arg9 harg9 arg10 harg10 x0 x1 x2 x3 x4 x5 x6 x7 x8 = (headRd i arg2 harg2 arg3 harg3 arg4 harg4 arg5 harg5 arg6 harg6 arg7 harg7 arg8 harg8 arg9 harg9 arg10 harg10 x0 x1 x2 x3 x4 x5 x6 x7 x8 2).o1 := by
  have e : kernelRun0_A.sl.v1723 c i arg2 harg2 arg3 harg3 arg4 harg4 arg5 harg5 arg6 harg6 arg7 harg7 arg8 harg8 arg9 harg9 arg10 harg10 x0 x1 x2 x3 x4 x5 x6 x7 x8 =
      tile (headRd i arg2 harg2 arg3 harg3 arg4 harg4 arg5 harg5 arg6 harg6 arg7 harg7 arg8 harg8 arg9 harg9 arg10 harg10 x0 x1 x2 x3 x4 x5 x6 x7 x8 2).kt (headRd i arg2 harg2 arg3 harg3 arg4 harg4 arg5 harg5 arg6 harg6 arg7 harg7 arg8 harg8 arg9 harg9 arg10 harg10 x0 x1 x2 x3 x4 x5 x6 x7 x8 2).vt (headRd i arg2 harg2 arg3 harg3 arg4 harg4 arg5 harg5 arg6 harg6 arg7 harg7 arg8 harg8 arg9 harg9 arg10 harg10 x0 x1 x2 x3 x4 x5 x6 x7 x8 2).vs (kernelRun0_A.sl.v1417 c arg5 harg5 arg9 harg9 x3 x7) (kernelRun0_A.sl.v1529 c arg5 harg5 arg10 harg10 x3 x8)
        (rowScale (kernelRun0_A.sl.v1410 c arg5 harg5 arg9 harg9 x3 x7) (headRd i arg2 harg2 arg3 harg3 arg4 harg4 arg5 harg5 arg6 harg6 arg7 harg7 arg8 harg8 arg9 harg9 arg10 harg10 x0 x1 x2 x3 x4 x5 x6 x7 x8 2).ks) (rowScale (kernelRun0_A.sl.v1522 c arg5 harg5 arg10 harg10 x3 x8) (headRd i arg2 harg2 arg3 harg3 arg4 harg4 arg5 harg5 arg6 harg6 arg7 harg7 arg8 harg8 arg9 harg9 arg10 harg10 x0 x1 x2 x3 x4 x5 x6 x7 x8 2).ps)
        128 slices_S96x640_o0_128_S96x128 slices_S1x640_o0_128_S1x128 (headRd i arg2 harg2 arg3 harg3 arg4 harg4 arg5 harg5 arg6 harg6 arg7 harg7 arg8 harg8 arg9 harg9 arg10 harg10 x0 x1 x2 x3 x4 x5 x6 x7 x8 2).t1 (headRd i arg2 harg2 arg3 harg3 arg4 harg4 arg5 harg5 arg6 harg6 arg7 harg7 arg8 harg8 arg9 harg9 arg10 harg10 x0 x1 x2 x3 x4 x5 x6 x7 x8 2).t2 (headRd i arg2 harg2 arg3 harg3 arg4 harg4 arg5 harg5 arg6 harg6 arg7 harg7 arg8 harg8 arg9 harg9 arg10 harg10 x0 x1 x2 x3 x4 x5 x6 x7 x8 2).t3 (headRd i arg2 harg2 arg3 harg3 arg4 harg4 arg5 harg5 arg6 harg6 arg7 harg7 arg8 harg8 arg9 harg9 arg10 harg10 x0 x1 x2 x3 x4 x5 x6 x7 x8 2).t4 (headRd i arg2 harg2 arg3 harg3 arg4 harg4 arg5 harg5 arg6 harg6 arg7 harg7 arg8 harg8 arg9 harg9 arg10 harg10 x0 x1 x2 x3 x4 x5 x6 x7 x8 2).t5 (headRd i arg2 harg2 arg3 harg3 arg4 harg4 arg5 harg5 arg6 harg6 arg7 harg7 arg8 harg8 arg9 harg9 arg10 harg10 x0 x1 x2 x3 x4 x5 x6 x7 x8 2).hi := rfl
  rw [e, cu2_eq c i arg2 harg2 arg3 harg3 arg4 harg4 arg5 harg5 arg6 harg6 arg7 harg7 arg8 harg8 arg9 harg9 arg10 harg10 x0 x1 x2 x3 x4 x5 x6 x7 x8, cw2_eq c i arg2 harg2 arg3 harg3 arg4 harg4 arg5 harg5 arg6 harg6 arg7 harg7 arg8 harg8 arg9 harg9 arg10 harg10 x0 x1 x2 x3 x4 x5 x6 x7 x8, su2_eq c i arg2 harg2 arg3 harg3 arg4 harg4 arg5 harg5 arg6 harg6 arg7 harg7 arg8 harg8 arg9 harg9 arg10 harg10 x0 x1 x2 x3 x4 x5 x6 x7 x8, sw2_eq c i arg2 harg2 arg3 harg3 arg4 harg4 arg5 harg5 arg6 harg6 arg7 harg7 arg8 harg8 arg9 harg9 arg10 harg10 x0 x1 x2 x3 x4 x5 x6 x7 x8]
  rfl

theorem tile22_eq : kernelRun0_A.sl.v1798 c i arg2 harg2 arg3 harg3 arg4 harg4 arg5 harg5 arg6 harg6 arg7 harg7 arg8 harg8 arg9 harg9 arg10 harg10 x0 x1 x2 x3 x4 x5 x6 x7 x8 = (headRd i arg2 harg2 arg3 harg3 arg4 harg4 arg5 harg5 arg6 harg6 arg7 harg7 arg8 harg8 arg9 harg9 arg10 harg10 x0 x1 x2 x3 x4 x5 x6 x7 x8 2).o2 := by
  have e : kernelRun0_A.sl.v1798 c i arg2 harg2 arg3 harg3 arg4 harg4 arg5 harg5 arg6 harg6 arg7 harg7 arg8 harg8 arg9 harg9 arg10 harg10 x0 x1 x2 x3 x4 x5 x6 x7 x8 =
      tile (headRd i arg2 harg2 arg3 harg3 arg4 harg4 arg5 harg5 arg6 harg6 arg7 harg7 arg8 harg8 arg9 harg9 arg10 harg10 x0 x1 x2 x3 x4 x5 x6 x7 x8 2).kt (headRd i arg2 harg2 arg3 harg3 arg4 harg4 arg5 harg5 arg6 harg6 arg7 harg7 arg8 harg8 arg9 harg9 arg10 harg10 x0 x1 x2 x3 x4 x5 x6 x7 x8 2).vt (headRd i arg2 harg2 arg3 harg3 arg4 harg4 arg5 harg5 arg6 harg6 arg7 harg7 arg8 harg8 arg9 harg9 arg10 harg10 x0 x1 x2 x3 x4 x5 x6 x7 x8 2).vs (kernelRun0_A.sl.v1417 c arg5 harg5 arg9 harg9 x3 x7) (kernelRun0_A.sl.v1529 c arg5 harg5 arg10 harg10 x3 x8)
        (rowScale (kernelRun0_A.sl.v1410 c arg5 harg5 arg9 harg9 x3 x7) (headRd i arg2 harg2 arg3 harg3 arg4 harg4 arg5 harg5 arg6 harg6 arg7 harg7 arg8 harg8 arg9 harg9 arg10 harg10 x0 x1 x2 x3 x4 x5 x6 x7 x8 2).ks) (rowScale (kernelRun0_A.sl.v1522 c arg5 harg5 arg10 harg10 x3 x8) (headRd i arg2 harg2 arg3 harg3 arg4 harg4 arg5 harg5 arg6 harg6 arg7 harg7 arg8 harg8 arg9 harg9 arg10 harg10 x0 x1 x2 x3 x4 x5 x6 x7 x8 2).ps)
        256 slices_S96x640_o0_256_S96x128 slices_S1x640_o0_256_S1x128 (headRd i arg2 harg2 arg3 harg3 arg4 harg4 arg5 harg5 arg6 harg6 arg7 harg7 arg8 harg8 arg9 harg9 arg10 harg10 x0 x1 x2 x3 x4 x5 x6 x7 x8 2).t0 (headRd i arg2 harg2 arg3 harg3 arg4 harg4 arg5 harg5 arg6 harg6 arg7 harg7 arg8 harg8 arg9 harg9 arg10 harg10 x0 x1 x2 x3 x4 x5 x6 x7 x8 2).t1 (headRd i arg2 harg2 arg3 harg3 arg4 harg4 arg5 harg5 arg6 harg6 arg7 harg7 arg8 harg8 arg9 harg9 arg10 harg10 x0 x1 x2 x3 x4 x5 x6 x7 x8 2).t2 (headRd i arg2 harg2 arg3 harg3 arg4 harg4 arg5 harg5 arg6 harg6 arg7 harg7 arg8 harg8 arg9 harg9 arg10 harg10 x0 x1 x2 x3 x4 x5 x6 x7 x8 2).t3 (headRd i arg2 harg2 arg3 harg3 arg4 harg4 arg5 harg5 arg6 harg6 arg7 harg7 arg8 harg8 arg9 harg9 arg10 harg10 x0 x1 x2 x3 x4 x5 x6 x7 x8 2).t4 (headRd i arg2 harg2 arg3 harg3 arg4 harg4 arg5 harg5 arg6 harg6 arg7 harg7 arg8 harg8 arg9 harg9 arg10 harg10 x0 x1 x2 x3 x4 x5 x6 x7 x8 2).t5 := rfl
  rw [e, cu2_eq c i arg2 harg2 arg3 harg3 arg4 harg4 arg5 harg5 arg6 harg6 arg7 harg7 arg8 harg8 arg9 harg9 arg10 harg10 x0 x1 x2 x3 x4 x5 x6 x7 x8, cw2_eq c i arg2 harg2 arg3 harg3 arg4 harg4 arg5 harg5 arg6 harg6 arg7 harg7 arg8 harg8 arg9 harg9 arg10 harg10 x0 x1 x2 x3 x4 x5 x6 x7 x8, su2_eq c i arg2 harg2 arg3 harg3 arg4 harg4 arg5 harg5 arg6 harg6 arg7 harg7 arg8 harg8 arg9 harg9 arg10 harg10 x0 x1 x2 x3 x4 x5 x6 x7 x8, sw2_eq c i arg2 harg2 arg3 harg3 arg4 harg4 arg5 harg5 arg6 harg6 arg7 harg7 arg8 harg8 arg9 harg9 arg10 harg10 x0 x1 x2 x3 x4 x5 x6 x7 x8]
  rfl

theorem tile23_eq : kernelRun0_A.sl.v1873 c i arg2 harg2 arg3 harg3 arg4 harg4 arg5 harg5 arg6 harg6 arg7 harg7 arg8 harg8 arg9 harg9 arg10 harg10 x0 x1 x2 x3 x4 x5 x6 x7 x8 = (headRd i arg2 harg2 arg3 harg3 arg4 harg4 arg5 harg5 arg6 harg6 arg7 harg7 arg8 harg8 arg9 harg9 arg10 harg10 x0 x1 x2 x3 x4 x5 x6 x7 x8 2).o3 := by
  have e : kernelRun0_A.sl.v1873 c i arg2 harg2 arg3 harg3 arg4 harg4 arg5 harg5 arg6 harg6 arg7 harg7 arg8 harg8 arg9 harg9 arg10 harg10 x0 x1 x2 x3 x4 x5 x6 x7 x8 =
      tile (headRd i arg2 harg2 arg3 harg3 arg4 harg4 arg5 harg5 arg6 harg6 arg7 harg7 arg8 harg8 arg9 harg9 arg10 harg10 x0 x1 x2 x3 x4 x5 x6 x7 x8 2).kt (headRd i arg2 harg2 arg3 harg3 arg4 harg4 arg5 harg5 arg6 harg6 arg7 harg7 arg8 harg8 arg9 harg9 arg10 harg10 x0 x1 x2 x3 x4 x5 x6 x7 x8 2).vt (headRd i arg2 harg2 arg3 harg3 arg4 harg4 arg5 harg5 arg6 harg6 arg7 harg7 arg8 harg8 arg9 harg9 arg10 harg10 x0 x1 x2 x3 x4 x5 x6 x7 x8 2).vs (kernelRun0_A.sl.v1417 c arg5 harg5 arg9 harg9 x3 x7) (kernelRun0_A.sl.v1529 c arg5 harg5 arg10 harg10 x3 x8)
        (rowScale (kernelRun0_A.sl.v1410 c arg5 harg5 arg9 harg9 x3 x7) (headRd i arg2 harg2 arg3 harg3 arg4 harg4 arg5 harg5 arg6 harg6 arg7 harg7 arg8 harg8 arg9 harg9 arg10 harg10 x0 x1 x2 x3 x4 x5 x6 x7 x8 2).ks) (rowScale (kernelRun0_A.sl.v1522 c arg5 harg5 arg10 harg10 x3 x8) (headRd i arg2 harg2 arg3 harg3 arg4 harg4 arg5 harg5 arg6 harg6 arg7 harg7 arg8 harg8 arg9 harg9 arg10 harg10 x0 x1 x2 x3 x4 x5 x6 x7 x8 2).ps)
        384 slices_S96x640_o0_384_S96x128 slices_S1x640_o0_384_S1x128 (headRd i arg2 harg2 arg3 harg3 arg4 harg4 arg5 harg5 arg6 harg6 arg7 harg7 arg8 harg8 arg9 harg9 arg10 harg10 x0 x1 x2 x3 x4 x5 x6 x7 x8 2).lo (headRd i arg2 harg2 arg3 harg3 arg4 harg4 arg5 harg5 arg6 harg6 arg7 harg7 arg8 harg8 arg9 harg9 arg10 harg10 x0 x1 x2 x3 x4 x5 x6 x7 x8 2).t0 (headRd i arg2 harg2 arg3 harg3 arg4 harg4 arg5 harg5 arg6 harg6 arg7 harg7 arg8 harg8 arg9 harg9 arg10 harg10 x0 x1 x2 x3 x4 x5 x6 x7 x8 2).t1 (headRd i arg2 harg2 arg3 harg3 arg4 harg4 arg5 harg5 arg6 harg6 arg7 harg7 arg8 harg8 arg9 harg9 arg10 harg10 x0 x1 x2 x3 x4 x5 x6 x7 x8 2).t2 (headRd i arg2 harg2 arg3 harg3 arg4 harg4 arg5 harg5 arg6 harg6 arg7 harg7 arg8 harg8 arg9 harg9 arg10 harg10 x0 x1 x2 x3 x4 x5 x6 x7 x8 2).t3 (headRd i arg2 harg2 arg3 harg3 arg4 harg4 arg5 harg5 arg6 harg6 arg7 harg7 arg8 harg8 arg9 harg9 arg10 harg10 x0 x1 x2 x3 x4 x5 x6 x7 x8 2).t4 := rfl
  rw [e, cu2_eq c i arg2 harg2 arg3 harg3 arg4 harg4 arg5 harg5 arg6 harg6 arg7 harg7 arg8 harg8 arg9 harg9 arg10 harg10 x0 x1 x2 x3 x4 x5 x6 x7 x8, cw2_eq c i arg2 harg2 arg3 harg3 arg4 harg4 arg5 harg5 arg6 harg6 arg7 harg7 arg8 harg8 arg9 harg9 arg10 harg10 x0 x1 x2 x3 x4 x5 x6 x7 x8, su2_eq c i arg2 harg2 arg3 harg3 arg4 harg4 arg5 harg5 arg6 harg6 arg7 harg7 arg8 harg8 arg9 harg9 arg10 harg10 x0 x1 x2 x3 x4 x5 x6 x7 x8, sw2_eq c i arg2 harg2 arg3 harg3 arg4 harg4 arg5 harg5 arg6 harg6 arg7 harg7 arg8 harg8 arg9 harg9 arg10 harg10 x0 x1 x2 x3 x4 x5 x6 x7 x8]
  rfl

theorem tile24_eq : kernelRun0_A.sl.v1948 c i arg2 harg2 arg3 harg3 arg4 harg4 arg5 harg5 arg6 harg6 arg7 harg7 arg8 harg8 arg9 harg9 arg10 harg10 x0 x1 x2 x3 x4 x5 x6 x7 x8 = (headRd i arg2 harg2 arg3 harg3 arg4 harg4 arg5 harg5 arg6 harg6 arg7 harg7 arg8 harg8 arg9 harg9 arg10 harg10 x0 x1 x2 x3 x4 x5 x6 x7 x8 2).o4 := by
  have e : kernelRun0_A.sl.v1948 c i arg2 harg2 arg3 harg3 arg4 harg4 arg5 harg5 arg6 harg6 arg7 harg7 arg8 harg8 arg9 harg9 arg10 harg10 x0 x1 x2 x3 x4 x5 x6 x7 x8 =
      tile (headRd i arg2 harg2 arg3 harg3 arg4 harg4 arg5 harg5 arg6 harg6 arg7 harg7 arg8 harg8 arg9 harg9 arg10 harg10 x0 x1 x2 x3 x4 x5 x6 x7 x8 2).kt (headRd i arg2 harg2 arg3 harg3 arg4 harg4 arg5 harg5 arg6 harg6 arg7 harg7 arg8 harg8 arg9 harg9 arg10 harg10 x0 x1 x2 x3 x4 x5 x6 x7 x8 2).vt (headRd i arg2 harg2 arg3 harg3 arg4 harg4 arg5 harg5 arg6 harg6 arg7 harg7 arg8 harg8 arg9 harg9 arg10 harg10 x0 x1 x2 x3 x4 x5 x6 x7 x8 2).vs (kernelRun0_A.sl.v1417 c arg5 harg5 arg9 harg9 x3 x7) (kernelRun0_A.sl.v1529 c arg5 harg5 arg10 harg10 x3 x8)
        (rowScale (kernelRun0_A.sl.v1410 c arg5 harg5 arg9 harg9 x3 x7) (headRd i arg2 harg2 arg3 harg3 arg4 harg4 arg5 harg5 arg6 harg6 arg7 harg7 arg8 harg8 arg9 harg9 arg10 harg10 x0 x1 x2 x3 x4 x5 x6 x7 x8 2).ks) (rowScale (kernelRun0_A.sl.v1522 c arg5 harg5 arg10 harg10 x3 x8) (headRd i arg2 harg2 arg3 harg3 arg4 harg4 arg5 harg5 arg6 harg6 arg7 harg7 arg8 harg8 arg9 harg9 arg10 harg10 x0 x1 x2 x3 x4 x5 x6 x7 x8 2).ps)
        512 slices_S96x640_o0_512_S96x128 slices_S1x640_o0_512_S1x128 (headRd i arg2 harg2 arg3 harg3 arg4 harg4 arg5 harg5 arg6 harg6 arg7 harg7 arg8 harg8 arg9 harg9 arg10 harg10 x0 x1 x2 x3 x4 x5 x6 x7 x8 2).lo (headRd i arg2 harg2 arg3 harg3 arg4 harg4 arg5 harg5 arg6 harg6 arg7 harg7 arg8 harg8 arg9 harg9 arg10 harg10 x0 x1 x2 x3 x4 x5 x6 x7 x8 2).lo (headRd i arg2 harg2 arg3 harg3 arg4 harg4 arg5 harg5 arg6 harg6 arg7 harg7 arg8 harg8 arg9 harg9 arg10 harg10 x0 x1 x2 x3 x4 x5 x6 x7 x8 2).t0 (headRd i arg2 harg2 arg3 harg3 arg4 harg4 arg5 harg5 arg6 harg6 arg7 harg7 arg8 harg8 arg9 harg9 arg10 harg10 x0 x1 x2 x3 x4 x5 x6 x7 x8 2).t1 (headRd i arg2 harg2 arg3 harg3 arg4 harg4 arg5 harg5 arg6 harg6 arg7 harg7 arg8 harg8 arg9 harg9 arg10 harg10 x0 x1 x2 x3 x4 x5 x6 x7 x8 2).t2 (headRd i arg2 harg2 arg3 harg3 arg4 harg4 arg5 harg5 arg6 harg6 arg7 harg7 arg8 harg8 arg9 harg9 arg10 harg10 x0 x1 x2 x3 x4 x5 x6 x7 x8 2).t3 := rfl
  rw [e, cu2_eq c i arg2 harg2 arg3 harg3 arg4 harg4 arg5 harg5 arg6 harg6 arg7 harg7 arg8 harg8 arg9 harg9 arg10 harg10 x0 x1 x2 x3 x4 x5 x6 x7 x8, cw2_eq c i arg2 harg2 arg3 harg3 arg4 harg4 arg5 harg5 arg6 harg6 arg7 harg7 arg8 harg8 arg9 harg9 arg10 harg10 x0 x1 x2 x3 x4 x5 x6 x7 x8, su2_eq c i arg2 harg2 arg3 harg3 arg4 harg4 arg5 harg5 arg6 harg6 arg7 harg7 arg8 harg8 arg9 harg9 arg10 harg10 x0 x1 x2 x3 x4 x5 x6 x7 x8, sw2_eq c i arg2 harg2 arg3 harg3 arg4 harg4 arg5 harg5 arg6 harg6 arg7 harg7 arg8 harg8 arg9 harg9 arg10 harg10 x0 x1 x2 x3 x4 x5 x6 x7 x8]
  rfl

end Cert.Proof

end
-- ==== Proof.Head3.lean ====
/- The output tiles of a grid step's head 3: each is the arithmetic of `Step` on that head's loads. -/
module

public import proofs.«01_k».proof.Proof.Pieces

@[expose] public section

set_option maxHeartbeats 1000000

noncomputable section

namespace Cert.Proof

open Idealize.ShloMosaic Idealize.ShloMosaic.TcCoe Idealize.SL.Sem Cert.KernelIdeal Cert.KernelIdeal.Gen

variable {F : FTy → Type} [FloatOps F] [Named F]
variable (c : Dev nD) (i : grid0.Coords) (arg2 : Memref sig .tc .smem S3x12 .f32) (harg2 : arg2.IsWhole) (arg3 : Memref sig .tc .smem S3x12 .f32) (harg3 : arg3.IsWhole) (arg4 : Memref sig .tc .smem S12 .f32) (harg4 : arg4.IsWhole) (arg5 : Memref sig .tc .vmem S1x4x96x640 .bf16) (harg5 : arg5.IsWhole) (arg6 : Memref sig .tc .vmem S1x4x96x640 .fp8e4m3) (harg6 : arg6.IsWhole) (arg7 : Memref sig .tc .vmem S1x4x96x640 .fp8e4m3) (harg7 : arg7.IsWhole) (arg8 : Memref sig .tc .vmem S4x96x769 .fp8e4m3) (harg8 : arg8.IsWhole) (arg9 : Memref sig .tc .vmem S4x96x1 .f32) (harg9 : arg9.IsWhole) (arg10 : Memref sig .tc .vmem S4x96x1 .f32) (harg10 : arg10.IsWhole) (arg11 : Memref sig .tc .vmem S1x640x384 .bf16) (harg11 : arg11.IsWhole) (arg12 : Memref sig .tc .vmem S1x4x96x640 .fp8e4m3) (harg12 : arg12.IsWhole) (arg13 : Memref sig .tc .vmem S1x1x4x640 .f32) (harg13 : arg13.IsWhole) (arg14 : Memref sig .tc .vmem S1x4x96x640 .fp8e4m3) (harg14 : arg14.IsWhole) (arg15 : Memref sig .tc .vmem S1x1x4x640 .f32) (harg15 : arg15.IsWhole)
  (x0 : Vec F S3x12 .f32) (x1 : Vec F S3x12 .f32) (x2 : Vec F S12 .f32) (x3 : Vec F S1x4x96x640 .bf16) (x4 : Vec F S1x4x96x640 .fp8e4m3) (x5 : Vec F S1x4x96x640 .fp8e4m3) (x6 : Vec F S4x96x769 .fp8e4m3) (x7 : Vec F S4x96x1 .f32) (x8 : Vec F S4x96x1 .f32)

theorem cu3_eq : kernelRun0_A.sl.v2065 c arg5 harg5 arg9 harg9 x3 x7 = (headRd i arg2 harg2 arg3 harg3 arg4 harg4 arg5 harg5 arg6 harg6 arg7 harg7 arg8 harg8 arg9 harg9 arg10 harg10 x0 x1 x2 x3 x4 x5 x6 x7 x8 3).cu := rfl
theorem cw3_eq : kernelRun0_A.sl.v2177 c arg5 harg5 arg10 harg10 x3 x8 = (headRd i arg2 harg2 arg3 harg3 arg4 harg4 arg5 harg5 arg6 harg6 arg7 harg7 arg8 harg8 arg9 harg9 arg10 harg10 x0 x1 x2 x3 x4 x5 x6 x7 x8 3).cw := rfl
theorem su3_eq : kernelRun0_A.sl.v2058 c arg5 harg5 arg9 harg9 x3 x7 = (headRd i arg2 harg2 arg3 harg3 arg4 harg4 arg5 harg5 arg6 harg6 arg7 harg7 arg8 harg8 arg9 harg9 arg10 harg10 x0 x1 x2 x3 x4 x5 x6 x7 x8 3).su := rfl
theorem sw3_eq : kernelRun0_A.sl.v2170 c arg5 harg5 arg10 harg10 x3 x8 = (headRd i arg2 harg2 arg3 harg3 arg4 harg4 arg5 harg5 arg6 harg6 arg7 harg7 arg8 harg8 arg9 harg9 arg10 harg10 x0 x1 x2 x3 x4 x5 x6 x7 x8 3).sw := rfl

theorem tile30_eq : kernelRun0_A.sl.v2296 c i arg2 harg2 arg3 harg3 arg4 harg4 arg5 harg5 arg6 harg6 arg7 harg7 arg8 harg8 arg9 harg9 arg10 harg10 x0 x1 x2 x3 x4 x5 x6 x7 x8 = (headRd i arg2 harg2 arg3 harg3 arg4 harg4 arg5 harg5 arg6 harg6 arg7 harg7 arg8 harg8 arg9 harg9 arg10 harg10 x0 x1 x2 x3 x4 x5 x6 x7 x8 3).o0 := by
  have e : kernelRun0_A.sl.v2296 c i arg2 harg2 arg3 harg3 arg4 harg4 arg5 harg5 arg6 harg6 arg7 harg7 arg8 harg8 arg9 harg9 arg10 harg10 x0 x1 x2 x3 x4 x5 x6 x7 x8 =
      tile (headRd i arg2 harg2 arg3 harg3 arg4 harg4 arg5 harg5 arg6 harg6 arg7 harg7 arg8 harg8 arg9 harg9 arg10 harg10 x0 x1 x2 x3 x4 x5 x6 x7 x8 3).kt (headRd i arg2 harg2 arg3 harg3 arg4 harg4 arg5 harg5 arg6 harg6 arg7 harg7 arg8 harg8 arg9 harg9 arg10 harg10 x0 x1 x2 x3 x4 x5 x6 x7 x8 3).vt (headRd i arg2 harg2 arg3 harg3 arg4 harg4 arg5 harg5 arg6 harg6 arg7 harg7 arg8 harg8 arg9 harg9 arg10 harg10 x0 x1 x2 x3 x4 x5 x6 x7 x8 3).vs (kernelRun0_A.sl.v2065 c arg5 harg5 arg9 harg9 x3 x7) (kernelRun0_A.sl.v2177 c arg5 harg5 arg10 harg10 x3 x8)
        (rowScale (kernelRun0_A.sl.v2058 c arg5 harg5 arg9 harg9 x3 x7) (headRd i arg2 harg2 arg3 harg3 arg4 harg4 arg5 harg5 arg6 harg6 arg7 harg7 arg8 harg8 arg9 harg9 arg10 harg10 x0 x1 x2 x3 x4 x5 x6 x7 x8 3).ks) (rowScale (kernelRun0_A.sl.v2170 c arg5 harg5 arg10 harg10 x3 x8) (headRd i arg2 harg2 arg3 harg3 arg4 harg4 arg5 harg5 arg6 harg6 arg7 harg7 arg8 harg8 arg9 harg9 arg10 harg10 x0 x1 x2 x3 x4 x5 x6 x7 x8 3).ps)
        0 slices_S96x640_o0_0_S96x128 slices_S1x640_o0_0_S1x128 (headRd i arg2 harg2 arg3 harg3 arg4 harg4 arg5 harg5 arg6 harg6 arg7 harg7 arg8 harg8 arg9 harg9 arg10 harg10 x0 x1 x2 x3 x4 x5 x6 x7 x8 3).t2 (headRd i arg2 harg2 arg3 harg3 arg4 harg4 arg5 harg5 arg6 harg6 arg7 harg7 arg8 harg8 arg9 harg9 arg10 harg10 x0 x1 x2 x3 x4 x5 x6 x7 x8 3).t3 (headRd i arg2 harg2 arg3 harg3 arg4 harg4 arg5 harg5 arg6 harg6 arg7 harg7 arg8 harg8 arg9 harg9 arg10 harg10 x0 x1 x2 x3 x4 x5 x6 x7 x8 3).t4 (headRd i arg2 harg2 arg3 harg3 arg4 harg4 arg5 harg5 arg6 harg6 arg7 harg7 arg8 harg8 arg9 harg9 arg10 harg10 x0 x1 x2 x3 x4 x5 x6 x7 x8 3).t5 (headRd i arg2 harg2 arg3 harg3 arg4 harg4 arg5 harg5 arg6 harg6 arg7 harg7 arg8 harg8 arg9 harg9 arg10 harg10 x0 x1 x2 x3 x4 x5 x6 x7 x8 3).hi (headRd i arg2 harg2 arg3 harg3 arg4 harg4 arg5 harg5 arg6 harg6 arg7 harg7 arg8 harg8 arg9 harg9 arg10 harg10 x0 x1 x2 x3 x4 x5 x6 x7 x8 3).hi := rfl
  rw [e, cu3_eq c i arg2 harg2 arg3 harg3 arg4 harg4 arg5 harg5 arg6 harg6 arg7 harg7 arg8 harg8 arg9 harg9 arg10 harg10 x0 x1 x2 x3 x4 x5 x6 x7 x8, cw3_eq c i arg2 harg2 arg3 harg3 arg4 harg4 arg5 harg5 arg6 harg6 arg7 harg7 arg8 harg8 arg9 harg9 arg10 harg10 x0 x1 x2 x3 x4 x5 x6 x7 x8, su3_eq c i arg2 harg2 arg3 harg3 arg4 harg4 arg5 harg5 arg6 harg6 arg7 harg7 arg8 harg8 arg9 harg9 arg10 harg10 x0 x1 x2 x3 x4 x5 x6 x7 x8, sw3_eq c i arg2 harg2 arg3 harg3 arg4 harg4 arg5 harg5 arg6 harg6 arg7 harg7 arg8 harg8 arg9 harg9 arg10 harg10 x0 x1 x2 x3 x4 x5 x6 x7 x8]
  rfl

theorem tile31_eq : kernelRun0_A.sl.v2371 c i arg2 harg2 arg3 harg3 arg4 harg4 arg5 harg5 arg6 harg6 arg7 harg7 arg8 harg8 arg9 harg9 arg10 harg10 x0 x1 x2 x3 x4 x5 x6 x7 x8 = (headRd i arg2 harg2 arg3 harg3 arg4 harg4 arg5 harg5 arg6 harg6 arg7 harg7 arg8 harg8 arg9 harg9 arg10 harg10 x0 x1 x2 x3 x4 x5 x6 x7 x8 3).o1 := by
  have e : kernelRun0_A.sl.v2371 c i arg2 harg2 arg3 harg3 arg4 harg4 arg5 harg5 arg6 harg6 arg7 harg7 arg8 harg8 arg9 harg9 arg10 harg10 x0 x1 x2 x3 x4 x5 x6 x7 x8 =
      tile (headRd i arg2 harg2 arg3 harg3 arg4 harg4 arg5 harg5 arg6 harg6 arg7 harg7 arg8 harg8 arg9 harg9 arg10 harg10 x0 x1 x2 x3 x4 x5 x6 x7 x8 3).kt (headRd i arg2 harg2 arg3 harg3 arg4 harg4 arg5 harg5 arg6 harg6 arg7 harg7 arg8 harg8 arg9 harg9 arg10 harg10 x0 x1 x2 x3 x4 x5 x6 x7 x8 3).vt (headRd i arg2 harg2 arg3 harg3 arg4 harg4 arg5 harg5 arg6 harg6 arg7 harg7 arg8 harg8 arg9 harg9 arg10 harg10 x0 x1 x2 x3 x4 x5 x6 x7 x8 3).vs (kernelRun0_A.sl.v2065 c arg5 harg5 arg9 harg9 x3 x7) (kernelRun0_A.sl.v2177 c arg5 harg5 arg10 harg10 x3 x8)
        (rowScale (kernelRun0_A.sl.v2058 c arg5 harg5 arg9 harg9 x3 x7) (headRd i arg2 harg2 arg3 harg3 arg4 harg4 arg5 harg5 arg6 harg6 arg7 harg7 arg8 harg8 arg9 harg9 arg10 harg10 x0 x1 x2 x3 x4 x5 x6 x7 x8 3).ks) (rowScale (kernelRun0_A.sl.v2170 c arg5 harg5 arg10 harg10 x3 x8) (headRd i arg2 harg2 arg3 harg3 arg4 harg4 arg5 harg5 arg6 harg6 arg7 harg7 arg8 harg8 arg9 harg9 arg10 harg10 x0 x1 x2 x3 x4 x5 x6 x7 x8 3).ps)
        128 slices_S96x640_o0_128_S96x128 slices_S1x640_o0_128_S1x128 (headRd i arg2 harg2 arg3 harg3 arg4 harg4 arg5 harg5 arg6 harg6 arg7 harg7 arg8 harg8 arg9 harg9 arg10 harg10 x0 x1 x2 x3 x4 x5 x6 x7 x8 3).t1 (headRd i arg2 harg2 arg3 harg3 arg4 harg4 arg5 harg5 arg6 harg6 arg7 harg7 arg8 harg8 arg9 harg9 arg10 harg10 x0 x1 x2 x3 x4 x5 x6 x7 x8 3).t2 (headRd i arg2 harg2 arg3 harg3 arg4 harg4 arg5 harg5 arg6 harg6 arg7 harg7 arg8 harg8 arg9 harg9 arg10 harg10 x0 x1 x2 x3 x4 x5 x6 x7 x8 3).t3 (headRd i arg2 harg2 arg3 harg3 arg4 harg4 arg5 harg5 arg6 harg6 arg7 harg7 arg8 harg8 arg9 harg9 arg10 harg10 x0 x1 x2 x3 x4 x5 x6 x7 x8 3).t4 (headRd i arg2 harg2 arg3 harg3 arg4 harg4 arg5 harg5 arg6 harg6 arg7 harg7 arg8 harg8 arg9 harg9 arg10 harg10 x0 x1 x2 x3 x4 x5 x6 x7 x8 3).t5 (headRd i arg2 harg2 arg3 harg3 arg4 harg4 arg5 harg5 arg6 harg6 arg7 harg7 arg8 harg8 arg9 harg9 arg10 harg10 x0 x1 x2 x3 x4 x5 x6 x7 x8 3).hi := rfl
  rw [e, cu3_eq c i arg2 harg2 arg3 harg3 arg4 harg4 arg5 harg5 arg6 harg6 arg7 harg7 arg8 harg8 arg9 harg9 arg10 harg10 x0 x1 x2 x3 x4 x5 x6 x7 x8, cw3_eq c i arg2 harg2 arg3 harg3 arg4 harg4 arg5 harg5 arg6 harg6 arg7 harg7 arg8 harg8 arg9 harg9 arg10 harg10 x0 x1 x2 x3 x4 x5 x6 x7 x8, su3_eq c i arg2 harg2 arg3 harg3 arg4 harg4 arg5 harg5 arg6 harg6 arg7 harg7 arg8 harg8 arg9 harg9 arg10 harg10 x0 x1 x2 x3 x4 x5 x6 x7 x8, sw3_eq c i arg2 harg2 arg3 harg3 arg4 harg4 arg5 harg5 arg6 harg6 arg7 harg7 arg8 harg8 arg9 harg9 arg10 harg10 x0 x1 x2 x3 x4 x5 x6 x7 x8]
  rfl

theorem tile32_eq : kernelRun0_A.sl.v2446 c i arg2 harg2 arg3 harg3 arg4 harg4 arg5 harg5 arg6 harg6 arg7 harg7 arg8 harg8 arg9 harg9 arg10 harg10 x0 x1 x2 x3 x4 x5 x6 x7 x8 = (headRd i arg2 harg2 arg3 harg3 arg4 harg4 arg5 harg5 arg6 harg6 arg7 harg7 arg8 harg8 arg9 harg9 arg10 harg10 x0 x1 x2 x3 x4 x5 x6 x7 x8 3).o2 := by
  have e : kernelRun0_A.sl.v2446 c i arg2 harg2 arg3 harg3 arg4 harg4 arg5 harg5 arg6 harg6 arg7 harg7 arg8 harg8 arg9 harg9 arg10 harg10 x0 x1 x2 x3 x4 x5 x6 x7 x8 =
      tile (headRd i arg2 harg2 arg3 harg3 arg4 harg4 arg5 harg5 arg6 harg6 arg7 harg7 arg8 harg8 arg9 harg9 arg10 harg10 x0 x1 x2 x3 x4 x5 x6 x7 x8 3).kt (headRd i arg2 harg2 arg3 harg3 arg4 harg4 arg5 harg5 arg6 harg6 arg7 harg7 arg8 harg8 arg9 harg9 arg10 harg10 x0 x1 x2 x3 x4 x5 x6 x7 x8 3).vt (headRd i arg2 harg2 arg3 harg3 arg4 harg4 arg5 harg5 arg6 harg6 arg7 harg7 arg8 harg8 arg9 harg9 arg10 harg10 x0 x1 x2 x3 x4 x5 x6 x7 x8 3).vs (kernelRun0_A.sl.v2065 c arg5 harg5 arg9 harg9 x3 x7) (kernelRun0_A.sl.v2177 c arg5 harg5 arg10 harg10 x3 x8)
        (rowScale (kernelRun0_A.sl.v2058 c arg5 harg5 arg9 harg9 x3 x7) (headRd i arg2 harg2 arg3 harg3 arg4 harg4 arg5 harg5 arg6 harg6 arg7 harg7 arg8 harg8 arg9 harg9 arg10 harg10 x0 x1 x2 x3 x4 x5 x6 x7 x8 3).ks) (rowScale (kernelRun0_A.sl.v2170 c arg5 harg5 arg10 harg10 x3 x8) (headRd i arg2 harg2 arg3 harg3 arg4 harg4 arg5 harg5 arg6 harg6 arg7 harg7 arg8 harg8 arg9 harg9 arg10 harg10 x0 x1 x2 x3 x4 x5 x6 x7 x8 3).ps)
        256 slices_S96x640_o0_256_S96x128 slices_S1x640_o0_256_S1x128 (headRd i arg2 harg2 arg3 harg3 arg4 harg4 arg5 harg5 arg6 harg6 arg7 harg7 arg8 harg8 arg9 harg9 arg10 harg10 x0 x1 x2 x3 x4 x5 x6 x7 x8 3).t0 (headRd i arg2 harg2 arg3 harg3 arg4 harg4 arg5 harg5 arg6 harg6 arg7 harg7 arg8 harg8 arg9 harg9 arg10 harg10 x0 x1 x2 x3 x4 x5 x6 x7 x8 3).t1 (headRd i arg2 harg2 arg3 harg3 arg4 harg4 arg5 harg5 arg6 harg6 arg7 harg7 arg8 harg8 arg9 harg9 arg10 harg10 x0 x1 x2 x3 x4 x5 x6 x7 x8 3).t2 (headRd i arg2 harg2 arg3 harg3 arg4 harg4 arg5 harg5 arg6 harg6 arg7 harg7 arg8 harg8 arg9 harg9 arg10 harg10 x0 x1 x2 x3 x4 x5 x6 x7 x8 3).t3 (headRd i arg2 harg2 arg3 harg3 arg4 harg4 arg5 harg5 arg6 harg6 arg7 harg7 arg8 harg8 arg9 harg9 arg10 harg10 x0 x1 x2 x3 x4 x5 x6 x7 x8 3).t4 (headRd i arg2 harg2 arg3 harg3 arg4 harg4 arg5 harg5 arg6 harg6 arg7 harg7 arg8 harg8 arg9 harg9 arg10 harg10 x0 x1 x2 x3 x4 x5 x6 x7 x8 3).t5 := rfl
  rw [e, cu3_eq c i arg2 harg2 arg3 harg3 arg4 harg4 arg5 harg5 arg6 harg6 arg7 harg7 arg8 harg8 arg9 harg9 arg10 harg10 x0 x1 x2 x3 x4 x5 x6 x7 x8, cw3_eq c i arg2 harg2 arg3 harg3 arg4 harg4 arg5 harg5 arg6 harg6 arg7 harg7 arg8 harg8 arg9 harg9 arg10 harg10 x0 x1 x2 x3 x4 x5 x6 x7 x8, su3_eq c i arg2 harg2 arg3 harg3 arg4 harg4 arg5 harg5 arg6 harg6 arg7 harg7 arg8 harg8 arg9 harg9 arg10 harg10 x0 x1 x2 x3 x4 x5 x6 x7 x8, sw3_eq c i arg2 harg2 arg3 harg3 arg4 harg4 arg5 harg5 arg6 harg6 arg7 harg7 arg8 harg8 arg9 harg9 arg10 harg10 x0 x1 x2 x3 x4 x5 x6 x7 x8]
  rfl

theorem tile33_eq : kernelRun0_A.sl.v2521 c i arg2 harg2 arg3 harg3 arg4 harg4 arg5 harg5 arg6 harg6 arg7 harg7 arg8 harg8 arg9 harg9 arg10 harg10 x0 x1 x2 x3 x4 x5 x6 x7 x8 = (headRd i arg2 harg2 arg3 harg3 arg4 harg4 arg5 harg5 arg6 harg6 arg7 harg7 arg8 harg8 arg9 harg9 arg10 harg10 x0 x1 x2 x3 x4 x5 x6 x7 x8 3).o3 := by
  have e : kernelRun0_A.sl.v2521 c i arg2 harg2 arg3 harg3 arg4 harg4 arg5 harg5 arg6 harg6 arg7 harg7 arg8 harg8 arg9 harg9 arg10 harg10 x0 x1 x2 x3 x4 x5 x6 x7 x8 =
      tile (headRd i arg2 harg2 arg3 harg3 arg4 harg4 arg5 harg5 arg6 harg6 arg7 harg7 arg8 harg8 arg9 harg9 arg10 harg10 x0 x1 x2 x3 x4 x5 x6 x7 x8 3).kt (headRd i arg2 harg2 arg3 harg3 arg4 harg4 arg5 harg5 arg6 harg6 arg7 harg7 arg8 harg8 arg9 harg9 arg10 harg10 x0 x1 x2 x3 x4 x5 x6 x7 x8 3).vt (headRd i arg2 harg2 arg3 harg3 arg4 harg4 arg5 harg5 arg6 harg6 arg7 harg7 arg8 harg8 arg9 harg9 arg10 harg10 x0 x1 x2 x3 x4 x5 x6 x7 x8 3).vs (kernelRun0_A.sl.v2065 c arg5 harg5 arg9 harg9 x3 x7) (kernelRun0_A.sl.v2177 c arg5 harg5 arg10 harg10 x3 x8)
        (rowScale (kernelRun0_A.sl.v2058 c arg5 harg5 arg9 harg9 x3 x7) (headRd i arg2 harg2 arg3 harg3 arg4 harg4 arg5 harg5 arg6 harg6 arg7 harg7 arg8 harg8 arg9 harg9 arg10 harg10 x0 x1 x2 x3 x4 x5 x6 x7 x8 3).ks) (rowScale (kernelRun0_A.sl.v2170 c arg5 harg5 arg10 harg10 x3 x8) (headRd i arg2 harg2 arg3 harg3 arg4 harg4 arg5 harg5 arg6 harg6 arg7 harg7 arg8 harg8 arg9 harg9 arg10 harg10 x0 x1 x2 x3 x4 x5 x6 x7 x8 3).ps)
        384 slices_S96x640_o0_384_S96x128 slices_S1x640_o0_384_S1x128 (headRd i arg2 harg2 arg3 harg3 arg4 harg4 arg5 harg5 arg6 harg6 arg7 harg7 arg8 harg8 arg9 harg9 arg10 harg10 x0 x1 x2 x3 x4 x5 x6 x7 x8 3).lo (headRd i arg2 harg2 arg3 harg3 arg4 harg4 arg5 harg5 arg6 harg6 arg7 harg7 arg8 harg8 arg9 harg9 arg10 harg10 x0 x1 x2 x3 x4 x5 x6 x7 x8 3).t0 (headRd i arg2 harg2 arg3 harg3 arg4 harg4 arg5 harg5 arg6 harg6 arg7 harg7 arg8 harg8 arg9 harg9 arg10 harg10 x0 x1 x2 x3 x4 x5 x6 x7 x8 3).t1 (headRd i arg2 harg2 arg3 harg3 arg4 harg4 arg5 harg5 arg6 harg6 arg7 harg7 arg8 harg8 arg9 harg9 arg10 harg10 x0 x1 x2 x3 x4 x5 x6 x7 x8 3).t2 (headRd i arg2 harg2 arg3 harg3 arg4 harg4 arg5 harg5 arg6 harg6 arg7 harg7 arg8 harg8 arg9 harg9 arg10 harg10 x0 x1 x2 x3 x4 x5 x6 x7 x8 3).t3 (headRd i arg2 harg2 arg3 harg3 arg4 harg4 arg5 harg5 arg6 harg6 arg7 harg7 arg8 harg8 arg9 harg9 arg10 harg10 x0 x1 x2 x3 x4 x5 x6 x7 x8 3).t4 := rfl
  rw [e, cu3_eq c i arg2 harg2 arg3 harg3 arg4 harg4 arg5 harg5 arg6 harg6 arg7 harg7 arg8 harg8 arg9 harg9 arg10 harg10 x0 x1 x2 x3 x4 x5 x6 x7 x8, cw3_eq c i arg2 harg2 arg3 harg3 arg4 harg4 arg5 harg5 arg6 harg6 arg7 harg7 arg8 harg8 arg9 harg9 arg10 harg10 x0 x1 x2 x3 x4 x5 x6 x7 x8, su3_eq c i arg2 harg2 arg3 harg3 arg4 harg4 arg5 harg5 arg6 harg6 arg7 harg7 arg8 harg8 arg9 harg9 arg10 harg10 x0 x1 x2 x3 x4 x5 x6 x7 x8, sw3_eq c i arg2 harg2 arg3 harg3 arg4 harg4 arg5 harg5 arg6 harg6 arg7 harg7 arg8 harg8 arg9 harg9 arg10 harg10 x0 x1 x2 x3 x4 x5 x6 x7 x8]
  rfl

theorem tile34_eq : k0_pay1 (kernelRun0_A.sl.v2593 c i arg2 harg2 arg3 harg3 arg4 harg4 arg5 harg5 arg6 harg6 arg7 harg7 arg8 harg8 arg9 harg9 arg10 harg10 x0 x1 x2 x3 x4 x5 x6 x7 x8) = (headRd i arg2 harg2 arg3 harg3 arg4 harg4 arg5 harg5 arg6 harg6 arg7 harg7 arg8 harg8 arg9 harg9 arg10 harg10 x0 x1 x2 x3 x4 x5 x6 x7 x8 3).o4 := by
  have e : k0_pay1 (kernelRun0_A.sl.v2593 c i arg2 harg2 arg3 harg3 arg4 harg4 arg5 harg5 arg6 harg6 arg7 harg7 arg8 harg8 arg9 harg9 arg10 harg10 x0 x1 x2 x3 x4 x5 x6 x7 x8) =
      tile (headRd i arg2 harg2 arg3 harg3 arg4 harg4 arg5 harg5 arg6 harg6 arg7 harg7 arg8 harg8 arg9 harg9 arg10 harg10 x0 x1 x2 x3 x4 x5 x6 x7 x8 3).kt (headRd i arg2 harg2 arg3 harg3 arg4 harg4 arg5 harg5 arg6 harg6 arg7 harg7 arg8 harg8 arg9 harg9 arg10 harg10 x0 x1 x2 x3 x4 x5 x6 x7 x8 3).vt (headRd i arg2 harg2 arg3 harg3 arg4 harg4 arg5 harg5 arg6 harg6 arg7 harg7 arg8 harg8 arg9 harg9 arg10 harg10 x0 x1 x2 x3 x4 x5 x6 x7 x8 3).vs (kernelRun0_A.sl.v2065 c arg5 harg5 arg9 harg9 x3 x7) (kernelRun0_A.sl.v2177 c arg5 harg5 arg10 harg10 x3 x8)
        (rowScale (kernelRun0_A.sl.v2058 c arg5 harg5 arg9 harg9 x3 x7) (headRd i arg2 harg2 arg3 harg3 arg4 harg4 arg5 harg5 arg6 harg6 arg7 harg7 arg8 harg8 arg9 harg9 arg10 harg10 x0 x1 x2 x3 x4 x5 x6 x7 x8 3).ks) (rowScale (kernelRun0_A.sl.v2170 c arg5 harg5 arg10 harg10 x3 x8) (headRd i arg2 harg2 arg3 harg3 arg4 harg4 arg5 harg5 arg6 harg6 arg7 harg7 arg8 harg8 arg9 harg9 arg10 harg10 x0 x1 x2 x3 x4 x5 x6 x7 x8 3).ps)
        512 slices_S96x640_o0_512_S96x128 slices_S1x640_o0_512_S1x128 (headRd i arg2 harg2 arg3 harg3 arg4 harg4 arg5 harg5 arg6 harg6 arg7 harg7 arg8 harg8 arg9 harg9 arg10 harg10 x0 x1 x2 x3 x4 x5 x6 x7 x8 3).lo (headRd i arg2 harg2 arg3 harg3 arg4 harg4 arg5 harg5 arg6 harg6 arg7 harg7 arg8 harg8 arg9 harg9 arg10 harg10 x0 x1 x2 x3 x4 x5 x6 x7 x8 3).lo (headRd i arg2 harg2 arg3 harg3 arg4 harg4 arg5 harg5 arg6 harg6 arg7 harg7 arg8 harg8 arg9 harg9 arg10 harg10 x0 x1 x2 x3 x4 x5 x6 x7 x8 3).t0 (headRd i arg2 harg2 arg3 harg3 arg4 harg4 arg5 harg5 arg6 harg6 arg7 harg7 arg8 harg8 arg9 harg9 arg10 harg10 x0 x1 x2 x3 x4 x5 x6 x7 x8 3).t1 (headRd i arg2 harg2 arg3 harg3 arg4 harg4 arg5 harg5 arg6 harg6 arg7 harg7 arg8 harg8 arg9 harg9 arg10 harg10 x0 x1 x2 x3 x4 x5 x6 x7 x8 3).t2 (headRd i arg2 harg2 arg3 harg3 arg4 harg4 arg5 harg5 arg6 harg6 arg7 harg7 arg8 harg8 arg9 harg9 arg10 harg10 x0 x1 x2 x3 x4 x5 x6 x7 x8 3).t3 := rfl
  rw [e, cu3_eq c i arg2 harg2 arg3 harg3 arg4 harg4 arg5 harg5 arg6 harg6 arg7 harg7 arg8 harg8 arg9 harg9 arg10 harg10 x0 x1 x2 x3 x4 x5 x6 x7 x8, cw3_eq c i arg2 harg2 arg3 harg3 arg4 harg4 arg5 harg5 arg6 harg6 arg7 harg7 arg8 harg8 arg9 harg9 arg10 harg10 x0 x1 x2 x3 x4 x5 x6 x7 x8, su3_eq c i arg2 harg2 arg3 harg3 arg4 harg4 arg5 harg5 arg6 harg6 arg7 harg7 arg8 harg8 arg9 harg9 arg10 harg10 x0 x1 x2 x3 x4 x5 x6 x7 x8, sw3_eq c i arg2 harg2 arg3 harg3 arg4 harg4 arg5 harg5 arg6 harg6 arg7 harg7 arg8 harg8 arg9 harg9 arg10 harg10 x0 x1 x2 x3 x4 x5 x6 x7 x8]
  rfl

end Cert.Proof

end
-- ==== Proof.Run.lean ====
/- The pieces one grid step stores into its five blocks, in terms of what each head reads. -/
module

public import proofs.«01_k».proof.Proof.Head0
public import proofs.«01_k».proof.Proof.Head1
public import proofs.«01_k».proof.Proof.Head2
public import proofs.«01_k».proof.Proof.Head3

@[expose] public section

noncomputable section

namespace Cert.Proof

open Idealize.ShloMosaic Idealize.ShloMosaic.TcCoe Idealize.SL.Sem Cert.KernelIdeal Cert.KernelIdeal.Gen

variable {F : FTy → Type} [FloatOps F] [Named F]

variable (c : Dev nD) (i : grid0.Coords) (arg2 : Memref sig .tc .smem S3x12 .f32) (harg2 : arg2.IsWhole) (arg3 : Memref sig .tc .smem S3x12 .f32) (harg3 : arg3.IsWhole) (arg4 : Memref sig .tc .smem S12 .f32) (harg4 : arg4.IsWhole) (arg5 : Memref sig .tc .vmem S1x4x96x640 .bf16) (harg5 : arg5.IsWhole) (arg6 : Memref sig .tc .vmem S1x4x96x640 .fp8e4m3) (harg6 : arg6.IsWhole) (arg7 : Memref sig .tc .vmem S1x4x96x640 .fp8e4m3) (harg7 : arg7.IsWhole) (arg8 : Memref sig .tc .vmem S4x96x769 .fp8e4m3) (harg8 : arg8.IsWhole) (arg9 : Memref sig .tc .vmem S4x96x1 .f32) (harg9 : arg9.IsWhole) (arg10 : Memref sig .tc .vmem S4x96x1 .f32) (harg10 : arg10.IsWhole) (arg11 : Memref sig .tc .vmem S1x640x384 .bf16) (harg11 : arg11.IsWhole) (arg12 : Memref sig .tc .vmem S1x4x96x640 .fp8e4m3) (harg12 : arg12.IsWhole) (arg13 : Memref sig .tc .vmem S1x1x4x640 .f32) (harg13 : arg13.IsWhole) (arg14 : Memref sig .tc .vmem S1x4x96x640 .fp8e4m3) (harg14 : arg14.IsWhole) (arg15 : Memref sig .tc .vmem S1x1x4x640 .f32) (harg15 : arg15.IsWhole)
  (x0 : Vec F S3x12 .f32) (x1 : Vec F S3x12 .f32) (x2 : Vec F S12 .f32) (x3 : Vec F S1x4x96x640 .bf16) (x4 : Vec F S1x4x96x640 .fp8e4m3) (x5 : Vec F S1x4x96x640 .fp8e4m3) (x6 : Vec F S4x96x769 .fp8e4m3) (x7 : Vec F S4x96x1 .f32) (x8 : Vec F S4x96x1 .f32)

/-- The pieces of the context block, by the run's own names for their values. -/
theorem run_raw9 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).1 =
    [ ⟨Rect.unit ![0, 512, 288] ![1, 128, 96] (by decide), k0_pay1 (kernelRun0_A.sl.v2593 c i arg2 harg2 arg3 harg3 arg4 harg4 arg5 harg5 arg6 harg6 arg7 harg7 arg8 harg8 arg9 harg9 arg10 harg10 x0 x1 x2 x3 x4 x5 x6 x7 x8)⟩,
      ⟨Rect.unit ![0, 384, 288] ![1, 128, 96] (by decide), kernelRun0_A.sl.v2521 c i arg2 harg2 arg3 harg3 arg4 harg4 arg5 harg5 arg6 harg6 arg7 harg7 arg8 harg8 arg9 harg9 arg10 harg10 x0 x1 x2 x3 x4 x5 x6 x7 x8⟩,
      ⟨Rect.unit ![0, 256, 288] ![1, 128, 96] (by decide), kernelRun0_A.sl.v2446 c i arg2 harg2 arg3 harg3 arg4 harg4 arg5 harg5 arg6 harg6 arg7 harg7 arg8 harg8 arg9 harg9 arg10 harg10 x0 x1 x2 x3 x4 x5 x6 x7 x8⟩,
      ⟨Rect.unit ![0, 128, 288] ![1, 128, 96] (by decide), kernelRun0_A.sl.v2371 c i arg2 harg2 arg3 harg3 arg4 harg4 arg5 harg5 arg6 harg6 arg7 harg7 arg8 harg8 arg9 harg9 arg10 harg10 x0 x1 x2 x3 x4 x5 x6 x7 x8⟩,
      ⟨Rect.unit ![0, 0, 288] ![1, 128, 96] (by decide), kernelRun0_A.sl.v2296 c i arg2 harg2 arg3 harg3 arg4 harg4 arg5 harg5 arg6 harg6 arg7 harg7 arg8 harg8 arg9 harg9 arg10 harg10 x0 x1 x2 x3 x4 x5 x6 x7 x8⟩,
      ⟨Rect.unit ![0, 512, 192] ![1, 128, 96] (by decide), kernelRun0_A.sl.v1948 c i arg2 harg2 arg3 harg3 arg4 harg4 arg5 harg5 arg6 harg6 arg7 harg7 arg8 harg8 arg9 harg9 arg10 harg10 x0 x1 x2 x3 x4 x5 x6 x7 x8⟩,
      ⟨Rect.unit ![0, 384, 192] ![1, 128, 96] (by decide), kernelRun0_A.sl.v1873 c i arg2 harg2 arg3 harg3 arg4 harg4 arg5 harg5 arg6 harg6 arg7 harg7 arg8 harg8 arg9 harg9 arg10 harg10 x0 x1 x2 x3 x4 x5 x6 x7 x8⟩,
      ⟨Rect.unit ![0, 256, 192] ![1, 128, 96] (by decide), kernelRun0_A.sl.v1798 c i arg2 harg2 arg3 harg3 arg4 harg4 arg5 harg5 arg6 harg6 arg7 harg7 arg8 harg8 arg9 harg9 arg10 harg10 x0 x1 x2 x3 x4 x5 x6 x7 x8⟩,
      ⟨Rect.unit ![0, 128, 192] ![1, 128, 96] (by decide), kernelRun0_A.sl.v1723 c i arg2 harg2 arg3 harg3 arg4 harg4 arg5 harg5 arg6 harg6 arg7 harg7 arg8 harg8 arg9 harg9 arg10 harg10 x0 x1 x2 x3 x4 x5 x6 x7 x8⟩,
      ⟨Rect.unit ![0, 0, 192] ![1, 128, 96] (by decide), kernelRun0_A.sl.v1648 c i arg2 harg2 arg3 harg3 arg4 harg4 arg5 harg5 arg6 harg6 arg7 harg7 arg8 harg8 arg9 harg9 arg10 harg10 x0 x1 x2 x3 x4 x5 x6 x7 x8⟩,
      ⟨Rect.unit ![0, 512, 96] ![1, 128, 96] (by decide), kernelRun0_A.sl.v1300 c i arg2 harg2 arg3 harg3 arg4 harg4 arg5 harg5 arg6 harg6 arg7 harg7 arg8 harg8 arg9 harg9 arg10 harg10 x0 x1 x2 x3 x4 x5 x6 x7 x8⟩,
      ⟨Rect.unit ![0, 384, 96] ![1, 128, 96] (by decide), kernelRun0_A.sl.v1225 c i arg2 harg2 arg3 harg3 arg4 harg4 arg5 harg5 arg6 harg6 arg7 harg7 arg8 harg8 arg9 harg9 arg10 harg10 x0 x1 x2 x3 x4 x5 x6 x7 x8⟩,
      ⟨Rect.unit ![0, 256, 96] ![1, 128, 96] (by decide), kernelRun0_A.sl.v1150 c i arg2 harg2 arg3 harg3 arg4 harg4 arg5 harg5 arg6 harg6 arg7 harg7 arg8 harg8 arg9 harg9 arg10 harg10 x0 x1 x2 x3 x4 x5 x6 x7 x8⟩,
      ⟨Rect.unit ![0, 128, 96] ![1, 128, 96] (by decide), kernelRun0_A.sl.v1075 c i arg2 harg2 arg3 harg3 arg4 harg4 arg5 harg5 arg6 harg6 arg7 harg7 arg8 harg8 arg9 harg9 arg10 harg10 x0 x1 x2 x3 x4 x5 x6 x7 x8⟩,
      ⟨Rect.unit ![0, 0, 96] ![1, 128, 96] (by decide), kernelRun0_A.sl.v1000 c i arg2 harg2 arg3 harg3 arg4 harg4 arg5 harg5 arg6 harg6 arg7 harg7 arg8 harg8 arg9 harg9 arg10 harg10 x0 x1 x2 x3 x4 x5 x6 x7 x8⟩,
      ⟨Rect.unit ![0, 512, 0] ![1, 128, 96] (by decide), kernelRun0_A.sl.v652 c i arg2 harg2 arg3 harg3 arg4 harg4 arg5 harg5 arg6 harg6 arg7 harg7 arg8 harg8 arg9 harg9 arg10 harg10 x0 x1 x2 x3 x4 x5 x6 x7 x8⟩,
      ⟨Rect.unit ![0, 384, 0] ![1, 128, 96] (by decide), kernelRun0_A.sl.v577 c i arg2 harg2 arg3 harg3 arg4 harg4 arg5 harg5 arg6 harg6 arg7 harg7 arg8 harg8 arg9 harg9 arg10 harg10 x0 x1 x2 x3 x4 x5 x6 x7 x8⟩,
      ⟨Rect.unit ![0, 256, 0] ![1, 128, 96] (by decide), kernelRun0_A.sl.v502 c i arg2 harg2 arg3 harg3 arg4 harg4 arg5 harg5 arg6 harg6 arg7 harg7 arg8 harg8 arg9 harg9 arg10 harg10 x0 x1 x2 x3 x4 x5 x6 x7 x8⟩,
      ⟨Rect.unit ![0, 128, 0] ![1, 128, 96] (by decide), kernelRun0_A.sl.v427 c i arg2 harg2 arg3 harg3 arg4 harg4 arg5 harg5 arg6 harg6 arg7 harg7 arg8 harg8 arg9 harg9 arg10 harg10 x0 x1 x2 x3 x4 x5 x6 x7 x8⟩,
      ⟨Rect.unit ![0, 0, 0] ![1, 128, 96] (by decide), kernelRun0_A.sl.v352 c i arg2 harg2 arg3 harg3 arg4 harg4 arg5 harg5 arg6 harg6 arg7 harg7 arg8 harg8 arg9 harg9 arg10 harg10 x0 x1 x2 x3 x4 x5 x6 x7 x8⟩ ] := rfl

/-- The pieces of the context block: a head's five tiles, the last stored first. -/
theorem run_pieces9 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).1 =
    [ ⟨Rect.unit ![0, 512, 288] ![1, 128, 96] (by decide), (headOf i x0 x1 x2 x3 x4 x5 x6 x7 x8 3).o4⟩,
      ⟨Rect.unit ![0, 384, 288] ![1, 128, 96] (by decide), (headOf i x0 x1 x2 x3 x4 x5 x6 x7 x8 3).o3⟩,
      ⟨Rect.unit ![0, 256, 288] ![1, 128, 96] (by decide), (headOf i x0 x1 x2 x3 x4 x5 x6 x7 x8 3).o2⟩,
      ⟨Rect.unit ![0, 128, 288] ![1, 128, 96] (by decide), (headOf i x0 x1 x2 x3 x4 x5 x6 x7 x8 3).o1⟩,
      ⟨Rect.unit ![0, 0, 288] ![1, 128, 96] (by decide), (headOf i x0 x1 x2 x3 x4 x5 x6 x7 x8 3).o0⟩,
      ⟨Rect.unit ![0, 512, 192] ![1, 128, 96] (by decide), (headOf i x0 x1 x2 x3 x4 x5 x6 x7 x8 2).o4⟩,
      ⟨Rect.unit ![0, 384, 192] ![1, 128, 96] (by decide), (headOf i x0 x1 x2 x3 x4 x5 x6 x7 x8 2).o3⟩,
      ⟨Rect.unit ![0, 256, 192] ![1, 128, 96] (by decide), (headOf i x0 x1 x2 x3 x4 x5 x6 x7 x8 2).o2⟩,
      ⟨Rect.unit ![0, 128, 192] ![1, 128, 96] (by decide), (headOf i x0 x1 x2 x3 x4 x5 x6 x7 x8 2).o1⟩,
      ⟨Rect.unit ![0, 0, 192] ![1, 128, 96] (by decide), (headOf i x0 x1 x2 x3 x4 x5 x6 x7 x8 2).o0⟩,
      ⟨Rect.unit ![0, 512, 96] ![1, 128, 96] (by decide), (headOf i x0 x1 x2 x3 x4 x5 x6 x7 x8 1).o4⟩,
      ⟨Rect.unit ![0, 384, 96] ![1, 128, 96] (by decide), (headOf i x0 x1 x2 x3 x4 x5 x6 x7 x8 1).o3⟩,
      ⟨Rect.unit ![0, 256, 96] ![1, 128, 96] (by decide), (headOf i x0 x1 x2 x3 x4 x5 x6 x7 x8 1).o2⟩,
      ⟨Rect.unit ![0, 128, 96] ![1, 128, 96] (by decide), (headOf i x0 x1 x2 x3 x4 x5 x6 x7 x8 1).o1⟩,
      ⟨Rect.unit ![0, 0, 96] ![1, 128, 96] (by decide), (headOf i x0 x1 x2 x3 x4 x5 x6 x7 x8 1).o0⟩,
      ⟨Rect.unit ![0, 512, 0] ![1, 128, 96] (by decide), (headOf i x0 x1 x2 x3 x4 x5 x6 x7 x8 0).o4⟩,
      ⟨Rect.unit ![0, 384, 0] ![1, 128, 96] (by decide), (headOf i x0 x1 x2 x3 x4 x5 x6 x7 x8 0).o3⟩,
      ⟨Rect.unit ![0, 256, 0] ![1, 128, 96] (by decide), (headOf i x0 x1 x2 x3 x4 x5 x6 x7 x8 0).o2⟩,
      ⟨Rect.unit ![0, 128, 0] ![1, 128, 96] (by decide), (headOf i x0 x1 x2 x3 x4 x5 x6 x7 x8 0).o1⟩,
      ⟨Rect.unit ![0, 0, 0] ![1, 128, 96] (by decide), (headOf i x0 x1 x2 x3 x4 x5 x6 x7 x8 0).o0⟩ ] := by
  rw [run_raw9, tile34_eq c i arg2 harg2 arg3 harg3 arg4 harg4 arg5 harg5 arg6 harg6 arg7 harg7 arg8 harg8 arg9 harg9 arg10 harg10 x0 x1 x2 x3 x4 x5 x6 x7 x8, tile33_eq c i arg2 harg2 arg3 harg3 arg4 harg4 arg5 harg5 arg6 harg6 arg7 harg7 arg8 harg8 arg9 harg9 arg10 harg10 x0 x1 x2 x3 x4 x5 x6 x7 x8, tile32_eq c i arg2 harg2 arg3 harg3 arg4 harg4 arg5 harg5 arg6 harg6 arg7 harg7 arg8 harg8 arg9 harg9 arg10 harg10 x0 x1 x2 x3 x4 x5 x6 x7 x8, tile31_eq c i arg2 harg2 arg3 harg3 arg4 harg4 arg5 harg5 arg6 harg6 arg7 harg7 arg8 harg8 arg9 harg9 arg10 harg10 x0 x1 x2 x3 x4 x5 x6 x7 x8, tile30_eq c i arg2 harg2 arg3 harg3 arg4 harg4 arg5 harg5 arg6 harg6 arg7 harg7 arg8 harg8 arg9 harg9 arg10 harg10 x0 x1 x2 x3 x4 x5 x6 x7 x8, tile24_eq c i arg2 harg2 arg3 harg3 arg4 harg4 arg5 harg5 arg6 harg6 arg7 harg7 arg8 harg8 arg9 harg9 arg10 harg10 x0 x1 x2 x3 x4 x5 x6 x7 x8, tile23_eq c i arg2 harg2 arg3 harg3 arg4 harg4 arg5 harg5 arg6 harg6 arg7 harg7 arg8 harg8 arg9 harg9 arg10 harg10 x0 x1 x2 x3 x4 x5 x6 x7 x8, tile22_eq c i arg2 harg2 arg3 harg3 arg4 harg4 arg5 harg5 arg6 harg6 arg7 harg7 arg8 harg8 arg9 harg9 arg10 harg10 x0 x1 x2 x3 x4 x5 x6 x7 x8, tile21_eq c i arg2 harg2 arg3 harg3 arg4 harg4 arg5 harg5 arg6 harg6 arg7 harg7 arg8 harg8 arg9 harg9 arg10 harg10 x0 x1 x2 x3 x4 x5 x6 x7 x8, tile20_eq c i arg2 harg2 arg3 harg3 arg4 harg4 arg5 harg5 arg6 harg6 arg7 harg7 arg8 harg8 arg9 harg9 arg10 harg10 x0 x1 x2 x3 x4 x5 x6 x7 x8, tile14_eq c i arg2 harg2 arg3 harg3 arg4 harg4 arg5 harg5 arg6 harg6 arg7 harg7 arg8 harg8 arg9 harg9 arg10 harg10 x0 x1 x2 x3 x4 x5 x6 x7 x8, tile13_eq c i arg2 harg2 arg3 harg3 arg4 harg4 arg5 harg5 arg6 harg6 arg7 harg7 arg8 harg8 arg9 harg9 arg10 harg10 x0 x1 x2 x3 x4 x5 x6 x7 x8, tile12_eq c i arg2 harg2 arg3 harg3 arg4 harg4 arg5 harg5 arg6 harg6 arg7 harg7 arg8 harg8 arg9 harg9 arg10 harg10 x0 x1 x2 x3 x4 x5 x6 x7 x8, tile11_eq c i arg2 harg2 arg3 harg3 arg4 harg4 arg5 harg5 arg6 harg6 arg7 harg7 arg8 harg8 arg9 harg9 arg10 harg10 x0 x1 x2 x3 x4 x5 x6 x7 x8, tile10_eq c i arg2 harg2 arg3 harg3 arg4 harg4 arg5 harg5 arg6 harg6 arg7 harg7 arg8 harg8 arg9 harg9 arg10 harg10 x0 x1 x2 x3 x4 x5 x6 x7 x8, tile04_eq c i arg2 harg2 arg3 harg3 arg4 harg4 arg5 harg5 arg6 harg6 arg7 harg7 arg8 harg8 arg9 harg9 arg10 harg10 x0 x1 x2 x3 x4 x5 x6 x7 x8, tile03_eq c i arg2 harg2 arg3 harg3 arg4 harg4 arg5 harg5 arg6 harg6 arg7 harg7 arg8 harg8 arg9 harg9 arg10 harg10 x0 x1 x2 x3 x4 x5 x6 x7 x8, tile02_eq c i arg2 harg2 arg3 harg3 arg4 harg4 arg5 harg5 arg6 harg6 arg7 harg7 arg8 harg8 arg9 harg9 arg10 harg10 x0 x1 x2 x3 x4 x5 x6 x7 x8, tile01_eq c i arg2 harg2 arg3 harg3 arg4 harg4 arg5 harg5 arg6 harg6 arg7 harg7 arg8 harg8 arg9 harg9 arg10 harg10 x0 x1 x2 x3 x4 x5 x6 x7 x8, tile00_eq c i arg2 harg2 arg3 harg3 arg4 harg4 arg5 harg5 arg6 harg6 arg7 harg7 arg8 harg8 arg9 harg9 arg10 harg10 x0 x1 x2 x3 x4 x5 x6 x7 x8]
  simp only [headRd_eq i arg2 harg2 arg3 harg3 arg4 harg4 arg5 harg5 arg6 harg6 arg7 harg7 arg8 harg8 arg9 harg9 arg10 harg10 x0 x1 x2 x3 x4 x5 x6 x7 x8]

theorem run_raw10 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).2.1 =
    [ ⟨Rect.unit ![0, 3, 0, 0] ![1, 1, 96, 640] (by decide), (headRd i arg2 harg2 arg3 harg3 arg4 harg4 arg5 harg5 arg6 harg6 arg7 harg7 arg8 harg8 arg9 harg9 arg10 harg10 x0 x1 x2 x3 x4 x5 x6 x7 x8 3).cuOut⟩,
      ⟨Rect.unit ![0, 2, 0, 0] ![1, 1, 96, 640] (by decide), (headRd i arg2 harg2 arg3 harg3 arg4 harg4 arg5 harg5 arg6 harg6 arg7 harg7 arg8 harg8 arg9 harg9 arg10 harg10 x0 x1 x2 x3 x4 x5 x6 x7 x8 2).cuOut⟩,
      ⟨Rect.unit ![0, 1, 0, 0] ![1, 1, 96, 640] (by decide), (headRd i arg2 harg2 arg3 harg3 arg4 harg4 arg5 harg5 arg6 harg6 arg7 harg7 arg8 harg8 arg9 harg9 arg10 harg10 x0 x1 x2 x3 x4 x5 x6 x7 x8 1).cuOut⟩,
      ⟨Rect.unit ![0, 0, 0, 0] ![1, 1, 96, 640] (by decide), (headRd i arg2 harg2 arg3 harg3 arg4 harg4 arg5 harg5 arg6 harg6 arg7 harg7 arg8 harg8 arg9 harg9 arg10 harg10 x0 x1 x2 x3 x4 x5 x6 x7 x8 0).cuOut⟩ ] := rfl

/-- The pieces of the first codes' block, one per head. -/
theorem run_pieces10 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).2.1 =
    [ ⟨Rect.unit ![0, 3, 0, 0] ![1, 1, 96, 640] (by decide), (headOf i x0 x1 x2 x3 x4 x5 x6 x7 x8 3).cuOut⟩,
      ⟨Rect.unit ![0, 2, 0, 0] ![1, 1, 96, 640] (by decide), (headOf i x0 x1 x2 x3 x4 x5 x6 x7 x8 2).cuOut⟩,
      ⟨Rect.unit ![0, 1, 0, 0] ![1, 1, 96, 640] (by decide), (headOf i x0 x1 x2 x3 x4 x5 x6 x7 x8 1).cuOut⟩,
      ⟨Rect.unit ![0, 0, 0, 0] ![1, 1, 96, 640] (by decide), (headOf i x0 x1 x2 x3 x4 x5 x6 x7 x8 0).cuOut⟩ ] := by
  rw [run_raw10]
  simp only [headRd_eq i arg2 harg2 arg3 harg3 arg4 harg4 arg5 harg5 arg6 harg6 arg7 harg7 arg8 harg8 arg9 harg9 arg10 harg10 x0 x1 x2 x3 x4 x5 x6 x7 x8]

theorem run_raw11 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).2.2.1 =
    [ ⟨Rect.unit ![0, 0, 3, 0] ![1, 1, 1, 640] (by decide), (headRd i arg2 harg2 arg3 harg3 arg4 harg4 arg5 harg5 arg6 harg6 arg7 harg7 arg8 harg8 arg9 harg9 arg10 harg10 x0 x1 x2 x3 x4 x5 x6 x7 x8 3).suOut⟩,
      ⟨Rect.unit ![0, 0, 2, 0] ![1, 1, 1, 640] (by decide), (headRd i arg2 harg2 arg3 harg3 arg4 harg4 arg5 harg5 arg6 harg6 arg7 harg7 arg8 harg8 arg9 harg9 arg10 harg10 x0 x1 x2 x3 x4 x5 x6 x7 x8 2).suOut⟩,
      ⟨Rect.unit ![0, 0, 1, 0] ![1, 1, 1, 640] (by decide), (headRd i arg2 harg2 arg3 harg3 arg4 harg4 arg5 harg5 arg6 harg6 arg7 harg7 arg8 harg8 arg9 harg9 arg10 harg10 x0 x1 x2 x3 x4 x5 x6 x7 x8 1).suOut⟩,
      ⟨Rect.unit ![0, 0, 0, 0] ![1, 1, 1, 640] (by decide), (headRd i arg2 harg2 arg3 harg3 arg4 harg4 arg5 harg5 arg6 harg6 arg7 harg7 arg8 harg8 arg9 harg9 arg10 harg10 x0 x1 x2 x3 x4 x5 x6 x7 x8 0).suOut⟩ ] := rfl

/-- The pieces of the first scales' block, one per head. -/
theorem run_pieces11 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).2.2.1 =
    [ ⟨Rect.unit ![0, 0, 3, 0] ![1, 1, 1, 640] (by decide), (headOf i x0 x1 x2 x3 x4 x5 x6 x7 x8 3).suOut⟩,
      ⟨Rect.unit ![0, 0, 2, 0] ![1, 1, 1, 640] (by decide), (headOf i x0 x1 x2 x3 x4 x5 x6 x7 x8 2).suOut⟩,
      ⟨Rect.unit ![0, 0, 1, 0] ![1, 1, 1, 640] (by decide), (headOf i x0 x1 x2 x3 x4 x5 x6 x7 x8 1).suOut⟩,
      ⟨Rect.unit ![0, 0, 0, 0] ![1, 1, 1, 640] (by decide), (headOf i x0 x1 x2 x3 x4 x5 x6 x7 x8 0).suOut⟩ ] := by
  rw [run_raw11]
  simp only [headRd_eq i arg2 harg2 arg3 harg3 arg4 harg4 arg5 harg5 arg6 harg6 arg7 harg7 arg8 harg8 arg9 harg9 arg10 harg10 x0 x1 x2 x3 x4 x5 x6 x7 x8]

theorem run_raw12 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).2.2.2.1 =
    [ ⟨Rect.unit ![0, 3, 0, 0] ![1, 1, 96, 640] (by decide), (headRd i arg2 harg2 arg3 harg3 arg4 harg4 arg5 harg5 arg6 harg6 arg7 harg7 arg8 harg8 arg9 harg9 arg10 harg10 x0 x1 x2 x3 x4 x5 x6 x7 x8 3).cwOut⟩,
      ⟨Rect.unit ![0, 2, 0, 0] ![1, 1, 96, 640] (by decide), (headRd i arg2 harg2 arg3 harg3 arg4 harg4 arg5 harg5 arg6 harg6 arg7 harg7 arg8 harg8 arg9 harg9 arg10 harg10 x0 x1 x2 x3 x4 x5 x6 x7 x8 2).cwOut⟩,
      ⟨Rect.unit ![0, 1, 0, 0] ![1, 1, 96, 640] (by decide), (headRd i arg2 harg2 arg3 harg3 arg4 harg4 arg5 harg5 arg6 harg6 arg7 harg7 arg8 harg8 arg9 harg9 arg10 harg10 x0 x1 x2 x3 x4 x5 x6 x7 x8 1).cwOut⟩,
      ⟨Rect.unit ![0, 0, 0, 0] ![1, 1, 96, 640] (by decide), (headRd i arg2 harg2 arg3 harg3 arg4 harg4 arg5 harg5 arg6 harg6 arg7 harg7 arg8 harg8 arg9 harg9 arg10 harg10 x0 x1 x2 x3 x4 x5 x6 x7 x8 0).cwOut⟩ ] := rfl

/-- The pieces of the second codes' block, one per head. -/
theorem run_pieces12 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).2.2.2.1 =
    [ ⟨Rect.unit ![0, 3, 0, 0] ![1, 1, 96, 640] (by decide), (headOf i x0 x1 x2 x3 x4 x5 x6 x7 x8 3).cwOut⟩,
      ⟨Rect.unit ![0, 2, 0, 0] ![1, 1, 96, 640] (by decide), (headOf i x0 x1 x2 x3 x4 x5 x6 x7 x8 2).cwOut⟩,
      ⟨Rect.unit ![0, 1, 0, 0] ![1, 1, 96, 640] (by decide), (headOf i x0 x1 x2 x3 x4 x5 x6 x7 x8 1).cwOut⟩,
      ⟨Rect.unit ![0, 0, 0, 0] ![1, 1, 96, 640] (by decide), (headOf i x0 x1 x2 x3 x4 x5 x6 x7 x8 0).cwOut⟩ ] := by
  rw [run_raw12]
  simp only [headRd_eq i arg2 harg2 arg3 harg3 arg4 harg4 arg5 harg5 arg6 harg6 arg7 harg7 arg8 harg8 arg9 harg9 arg10 harg10 x0 x1 x2 x3 x4 x5 x6 x7 x8]

theorem run_raw13 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).2.2.2.2.1 =
    [ ⟨Rect.unit ![0, 0, 3, 0] ![1, 1, 1, 640] (by decide), (headRd i arg2 harg2 arg3 harg3 arg4 harg4 arg5 harg5 arg6 harg6 arg7 harg7 arg8 harg8 arg9 harg9 arg10 harg10 x0 x1 x2 x3 x4 x5 x6 x7 x8 3).swOut⟩,
      ⟨Rect.unit ![0, 0, 2, 0] ![1, 1, 1, 640] (by decide), (headRd i arg2 harg2 arg3 harg3 arg4 harg4 arg5 harg5 arg6 harg6 arg7 harg7 arg8 harg8 arg9 harg9 arg10 harg10 x0 x1 x2 x3 x4 x5 x6 x7 x8 2).swOut⟩,
      ⟨Rect.unit ![0, 0, 1, 0] ![1, 1, 1, 640] (by decide), (headRd i arg2 harg2 arg3 harg3 arg4 harg4 arg5 harg5 arg6 harg6 arg7 harg7 arg8 harg8 arg9 harg9 arg10 harg10 x0 x1 x2 x3 x4 x5 x6 x7 x8 1).swOut⟩,
      ⟨Rect.unit ![0, 0, 0, 0] ![1, 1, 1, 640] (by decide), (headRd i arg2 harg2 arg3 harg3 arg4 harg4 arg5 harg5 arg6 harg6 arg7 harg7 arg8 harg8 arg9 harg9 arg10 harg10 x0 x1 x2 x3 x4 x5 x6 x7 x8 0).swOut⟩ ] := rfl

/-- The pieces of the second scales' block, one per head. -/
theorem run_pieces13 : (kernelRun0_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8).2.2.2.2.1 =
    [ ⟨Rect.unit ![0, 0, 3, 0] ![1, 1, 1, 640] (by decide), (headOf i x0 x1 x2 x3 x4 x5 x6 x7 x8 3).swOut⟩,
      ⟨Rect.unit ![0, 0, 2, 0] ![1, 1, 1, 640] (by decide), (headOf i x0 x1 x2 x3 x4 x5 x6 x7 x8 2).swOut⟩,
      ⟨Rect.unit ![0, 0, 1, 0] ![1, 1, 1, 640] (by decide), (headOf i x0 x1 x2 x3 x4 x5 x6 x7 x8 1).swOut⟩,
      ⟨Rect.unit ![0, 0, 0, 0] ![1, 1, 1, 640] (by decide), (headOf i x0 x1 x2 x3 x4 x5 x6 x7 x8 0).swOut⟩ ] := by
  rw [run_raw13]
  simp only [headRd_eq i arg2 harg2 arg3 harg3 arg4 harg4 arg5 harg5 arg6 harg6 arg7 harg7 arg8 harg8 arg9 harg9 arg10 harg10 x0 x1 x2 x3 x4 x5 x6 x7 x8]

end Cert.Proof

end
-- ==== Proof.Quant.lean ====
/- The quantiser's exponent over the extended reals: the kernel finds it by a search of the eight bits of the
   exponent field, the reference as the floor of the logarithm plus one. -/
module

public import proofs.«01_k».proof.Proof.Step
public import Idealize.ShloMosaic.Lib.Pointwise

@[expose] public section

noncomputable section

namespace Cert.Proof

open Idealize.ShloMosaic Idealize.SL.Sem Cert.KernelIdeal Cert.KernelIdeal.Gen

/-! ## Powers of two by their exponent field -/

theorem ofBits_f32 (b : BitVec 32) : Ideal.ofBits .f32 b = Ideal.ieee 8 23 b := rfl

/-- The number whose exponent field is `k`, all other bits zero. -/
def fieldPow (k : Nat) : EReal := Ideal.ofBits .f32 (IntOp.shli .vector (BitVec.ofNat 32 k) 23#32)

theorem fieldPow_eq {k : Nat} (h1 : 1 ≤ k) (h2 : k ≤ 254) : fieldPow k = (((2 : ℝ) ^ ((k : ℤ) - 127) : ℝ) : EReal) := by
  have e : IntOp.shli .vector (BitVec.ofNat 32 k) 23#32 = BitVec.ofNat 32 k <<< (23 : Nat) := rfl
  have hn : (BitVec.extractLsb' (8 + 23) 1 (BitVec.ofNat 32 k <<< (23 : Nat)) == 1#1) = false := by
    rw [beq_eq_false_iff_ne]
    intro h
    have := congrArg BitVec.toNat h
    simp only [BitVec.extractLsb'_toNat, BitVec.toNat_shiftLeft, BitVec.toNat_ofNat, Nat.shiftLeft_eq, Nat.shiftRight_eq_div_pow] at this
    omega
  have hx : (BitVec.extractLsb' 23 8 (BitVec.ofNat 32 k <<< (23 : Nat))).toNat = k := by
    simp only [BitVec.extractLsb'_toNat, BitVec.toNat_shiftLeft, BitVec.toNat_ofNat, Nat.shiftLeft_eq, Nat.shiftRight_eq_div_pow]
    omega
  have hf : (BitVec.extractLsb' 0 23 (BitVec.ofNat 32 k <<< (23 : Nat))).toNat = 0 := by
    simp only [BitVec.extractLsb'_toNat, BitVec.toNat_shiftLeft, BitVec.toNat_ofNat, Nat.shiftLeft_eq, Nat.shiftRight_eq_div_pow]
    omega
  unfold fieldPow
  rw [e, ofBits_f32]
  unfold Ideal.ieee
  simp only [hn, hx, hf]
  rw [if_neg (by omega), if_neg (by omega)]
  have h2 : (2 : ℝ) ≠ 0 := by norm_num
  have hz : (2 : ℝ) ^ ((k : ℤ) - (2 ^ (8 - 1) - 1) - ((23 : ℕ) : ℤ)) = (2 : ℝ) ^ ((k : ℤ) - 127) * ((2 : ℝ) ^ (23 : ℕ))⁻¹ := by
    rw [← zpow_natCast, ← zpow_neg, ← zpow_add₀ h2]
    exact congrArg _ (by norm_num; ring)
  rw [hz]
  refine EReal.coe_eq_coe_iff.mpr ?_
  have h8 : ((2 ^ 23 + 0 : ℕ) : ℝ) = 8388608 := by norm_num
  have h9 : ((2 : ℝ) ^ (23 : ℕ)) = 8388608 := by norm_num
  rw [h8, h9]
  generalize (2 : ℝ) ^ ((k : ℤ) - 127) = z
  simp only [Bool.false_eq_true, if_false]
  ring

theorem fieldPow_255 : fieldPow 255 = ⊤ := by
  unfold fieldPow
  have e : IntOp.shli .vector (BitVec.ofNat 32 255) 23#32 = 0x7F800000#32 := by decide
  rw [e, ofBits_f32]
  unfold Ideal.ieee
  have hn : (BitVec.extractLsb' (8 + 23) 1 0x7F800000#32 == 1#1) = false := by decide
  have hx : (BitVec.extractLsb' 23 8 0x7F800000#32).toNat = 2 ^ 8 - 1 := by decide
  have hf : (BitVec.extractLsb' 0 23 0x7F800000#32).toNat = 0 := by decide
  simp only [hn, hx, hf]
  simp

theorem ofBits_field (k : Nat) (b : BitVec 32) (h : b = IntOp.shli .vector (BitVec.ofNat 32 k) 23#32) :
    Ideal.ofBits .f32 b = fieldPow k := by rw [h]; rfl

/-! ## The search -/

/-- One step of the search on one quotient. -/
def sBit (y : EReal) (bit f : BitVec 32) : BitVec 32 :=
  Scalar.select (Ideal.cmp .oge y (Ideal.ofBits .f32 (IntOp.shli .vector (f + bit) 23#32))) (f + bit) f

/-- The search on one quotient. -/
def sField (y : EReal) : BitVec 32 :=
  Scalar.select (Ideal.cmp .olt y (Ideal.ofBits .f32 0x7B800000#32))
    (sBit y 1#32 (sBit y 2#32 (sBit y 4#32 (sBit y 8#32 (sBit y 16#32 (sBit y 32#32 (sBit y 64#32 (sBit y 128#32 0#32))))))))
    255#32

/-- The exponent from the field. -/
def sExp (f : BitVec 32) : BitVec 32 :=
  Scalar.select (IntOp.ori (IntOp.cmpi .eq f 0#32) (IntOp.cmpi .eq f 255#32)) 0#32 (f - 126#32)

/-- The scale and its inverse, from the exponent. -/
def sScale (y : EReal) : EReal := Ideal.ofBits .f32 (IntOp.shli .vector (127#32 + sExp (sField y)) 23#32)
def sInv (y : EReal) : EReal := Ideal.ofBits .f32 (IntOp.shli .vector (127#32 - sExp (sField y)) 23#32)

/-- What the search keeps: the field found is 0 or a power the quotient reaches, and the next power at this step it does not reach. -/
def Found (y : EReal) (n w : Nat) : Prop := (n = 0 ∨ fieldPow n ≤ y) ∧ (256 ≤ n + w ∨ y < fieldPow (n + w))

theorem sBit_found (y : EReal) (n b : Nat) (h : Found y n (2 * b)) (hb : 0 < b) :
    ∃ m, sBit y (BitVec.ofNat 32 b) (BitVec.ofNat 32 n) = BitVec.ofNat 32 m ∧ Found y m b ∧ m ≤ n + b := by
  unfold sBit
  rw [← BitVec.ofNat_add]
  by_cases hy : fieldPow (n + b) ≤ y
  · refine ⟨n + b, ?_, ⟨.inr hy, ?_⟩, le_refl _⟩
    · have : Ideal.cmp .oge y (Ideal.ofBits .f32 (IntOp.shli .vector (BitVec.ofNat 32 (n + b)) 23#32)) = 1 := by
        show BitVec.ofBool (decide (fieldPow (n + b) ≤ y)) = 1
        rw [decide_eq_true hy]; rfl
      rw [this]; rfl
    · have := h.2
      rw [show n + b + b = n + 2 * b by omega]; exact this
  · refine ⟨n, ?_, ⟨h.1, .inr (not_le.mp hy)⟩, by omega⟩
    have : Ideal.cmp .oge y (Ideal.ofBits .f32 (IntOp.shli .vector (BitVec.ofNat 32 (n + b)) 23#32)) = 0 := by
      show BitVec.ofBool (decide (fieldPow (n + b) ≤ y)) = 0
      rw [decide_eq_false hy]; rfl
    rw [this]; rfl

theorem search_found (y : EReal) :
    ∃ m, sBit y 1#32 (sBit y 2#32 (sBit y 4#32 (sBit y 8#32 (sBit y 16#32 (sBit y 32#32 (sBit y 64#32 (sBit y 128#32 0#32)))))))
      = BitVec.ofNat 32 m ∧ Found y m 1 ∧ m ≤ 255 := by
  obtain ⟨a, ea, ha, la⟩ := sBit_found y 0 128 ⟨.inl rfl, .inl (by omega)⟩ (by omega)
  obtain ⟨b, eb, hb, lb⟩ := sBit_found y a 64 ha (by omega)
  obtain ⟨c, ec, hc, lc⟩ := sBit_found y b 32 hb (by omega)
  obtain ⟨d, ed, hd, ld⟩ := sBit_found y c 16 hc (by omega)
  obtain ⟨e, ee, he, le⟩ := sBit_found y d 8 hd (by omega)
  obtain ⟨f, ef, hf, lf⟩ := sBit_found y e 4 he (by omega)
  obtain ⟨g, eg, hg, lg⟩ := sBit_found y f 2 hf (by omega)
  obtain ⟨k, ek, hk, lk⟩ := sBit_found y g 1 hg (by omega)
  exact ⟨k, by rw [ea, eb, ec, ed, ee, ef, eg, ek], hk, by omega⟩

/-! ## The reference's exponent -/

/-- The quotients that get an exponent: normal ones below 2^120. -/
def InRange (y : EReal) : Prop := Ideal.ofBits .f32 0x00800000#32 ≤ y ∧ y < Ideal.ofBits .f32 0x7B800000#32

open Classical in
/-- The exponent of the scale: the floor of the logarithm plus one where the quotient is in range, 0 elsewhere. -/
def scaleExp (y : EReal) : EReal :=
  if InRange y then Ideal.liftRound Int.floor (Ideal.div (Ideal.log y) (Ideal.log 2)) + 1 else 0

theorem ofBits_tiny : Ideal.ofBits .f32 0x00800000#32 = fieldPow 1 := ofBits_field 1 _ (by decide)
theorem ofBits_big : Ideal.ofBits .f32 0x7B800000#32 = fieldPow 247 := ofBits_field 247 _ (by decide)

theorem pow_two_int (n : ℤ) : Ideal.pow 2 ((n : ℝ) : EReal) = (((2 : ℝ) ^ n : ℝ) : EReal) := by
  show ((Real.rpow 2 (n : ℝ) : ℝ) : EReal) = _
  congr 1
  exact Real.rpow_intCast 2 n

/-- Either the quotient is out of range, or it lies in `[2^n, 2^(n+1))` for an exponent of the range. -/
theorem field_cases (y : EReal) :
    (¬ InRange y ∧ (sField y = 0#32 ∨ sField y = 255#32)) ∨
    ∃ r : Nat, 1 ≤ r ∧ r ≤ 246 ∧ InRange y ∧ sField y = BitVec.ofNat 32 r ∧ fieldPow r ≤ y ∧ y < fieldPow (r + 1) := by
  unfold InRange
  rw [ofBits_tiny, ofBits_big]
  by_cases hb : y < fieldPow 247
  · have hc : Ideal.cmp .olt y (Ideal.ofBits .f32 0x7B800000#32) = 1 := by
      show BitVec.ofBool (decide _) = 1
      rw [ofBits_big, decide_eq_true hb]; rfl
    obtain ⟨r, er, ⟨h1, h2⟩, hr⟩ := search_found y
    have ef : sField y = BitVec.ofNat 32 r := by
      unfold sField; rw [hc, er]; rfl
    by_cases h0 : r = 0
    · left
      subst h0
      refine ⟨fun h => ?_, .inl ef⟩
      rcases h2 with h2 | h2
      · omega
      · exact absurd h.1 (not_le.mpr h2)
    · have h1 : fieldPow r ≤ y := h1.resolve_left h0
      have hr' : r ≤ 246 := by
        by_contra hgt
        have : fieldPow 247 ≤ fieldPow r := by
          by_cases h255 : r = 255
          · subst h255; rw [fieldPow_255]; exact le_top
          · rw [fieldPow_eq (by omega) (by omega), fieldPow_eq (by omega) (by omega), EReal.coe_le_coe_iff]
            exact zpow_le_zpow_right₀ (by norm_num) (by omega)
        exact absurd (lt_of_lt_of_le hb this) (not_lt.mpr h1)
      right
      refine ⟨r, by omega, hr', ⟨?_, hb⟩, ef, h1, h2.resolve_left (by omega)⟩
      refine le_trans ?_ h1
      rw [fieldPow_eq (by omega) (by omega), fieldPow_eq (by omega) (by omega), EReal.coe_le_coe_iff]
      exact zpow_le_zpow_right₀ (by norm_num) (by omega)
  · left
    refine ⟨fun h => hb h.2, .inr ?_⟩
    have hc : Ideal.cmp .olt y (Ideal.ofBits .f32 0x7B800000#32) = 0 := by
      show BitVec.ofBool (decide _) = 0
      rw [ofBits_big, decide_eq_false hb]; rfl
    unfold sField; rw [hc]; rfl

theorem log_two : Ideal.log 2 = ((Real.log 2 : ℝ) : EReal) := by
  show (if (2 : ℝ) ≤ 0 then (⊥ : EReal) else ((Real.log 2 : ℝ) : EReal)) = _
  rw [if_neg (by norm_num)]

/-- A quotient in `[2^n, 2^(n+1))` has the exponent `n + 1`. -/
theorem scaleExp_of {y : EReal} (hy : InRange y) (n : ℤ) (h1 : (((2 : ℝ) ^ n : ℝ) : EReal) ≤ y)
    (h2 : y < (((2 : ℝ) ^ (n + 1) : ℝ) : EReal)) : scaleExp y = (((n + 1 : ℤ) : ℝ) : EReal) := by
  have ht : y ≠ ⊤ := ne_top_of_lt h2
  have hbt : y ≠ ⊥ := by rintro rfl; exact absurd h1 (by simp)
  lift y to ℝ using ⟨ht, hbt⟩
  rw [EReal.coe_le_coe_iff] at h1
  rw [EReal.coe_lt_coe_iff] at h2
  have hp : (0 : ℝ) < (2 : ℝ) ^ n := by positivity
  have hy0 : 0 < y := lt_of_lt_of_le hp h1
  unfold scaleExp
  rw [if_pos hy, log_two]
  have hl : Ideal.log ((y : ℝ) : EReal) = ((Real.log y : ℝ) : EReal) := by
    show (if y ≤ 0 then (⊥ : EReal) else ((Real.log y : ℝ) : EReal)) = _
    rw [if_neg (not_le.mpr hy0)]
  have hl2 : (0 : ℝ) < Real.log 2 := Real.log_pos (by norm_num)
  have hd : Ideal.div ((Real.log y : ℝ) : EReal) ((Real.log 2 : ℝ) : EReal) = ((Real.log y / Real.log 2 : ℝ) : EReal) := by
    unfold Ideal.div
    rw [if_neg (by rw [EReal.coe_eq_zero]; exact hl2.ne'), ← EReal.coe_inv, ← EReal.coe_mul, div_eq_mul_inv]
  have hfl : ⌊Real.log y / Real.log 2⌋ = n := by
    rw [Int.floor_eq_iff, le_div_iff₀ hl2, div_lt_iff₀ hl2]
    constructor
    · have := Real.log_le_log hp h1
      rwa [Real.log_zpow] at this
    · have := Real.log_lt_log hy0 h2
      rw [Real.log_zpow] at this
      push_cast at this
      exact this
  rw [hl, hd]
  show ((⌊Real.log y / Real.log 2⌋ : ℝ) : EReal) + 1 = _
  rw [hfl]
  push_cast
  rfl

theorem sExp_zero {f : BitVec 32} (h : f = 0#32 ∨ f = 255#32) : sExp f = 0#32 := by
  rcases h with rfl | rfl <;> decide

theorem sExp_field {r : Nat} (h1 : 1 ≤ r) (h2 : r ≤ 246) : sExp (BitVec.ofNat 32 r) = BitVec.ofNat 32 r - 126#32 := by
  unfold sExp
  have ne (k : Nat) (hk : k < 2 ^ 32) (h : r ≠ k) : IntOp.cmpi .eq (BitVec.ofNat 32 r) (BitVec.ofNat 32 k) = 0#1 := by
    show BitVec.ofBool (BitVec.ofNat 32 r == BitVec.ofNat 32 k) = 0#1
    have : (BitVec.ofNat 32 r == BitVec.ofNat 32 k) = false := by
      rw [beq_eq_false_iff_ne]
      intro h'
      have := congrArg BitVec.toNat h'
      simp only [BitVec.toNat_ofNat] at this
      omega
    rw [this]; rfl
  rw [ne 0 (by omega) (by omega), ne 255 (by omega) (by omega)]
  rfl

/-- The kernel's scale is two to the reference's exponent. -/
theorem sScale_eq (y : EReal) : sScale y = Ideal.pow 2 (scaleExp y) := by
  unfold sScale
  rcases field_cases y with ⟨hy, h⟩ | ⟨r, h1, h2, hy, ef, hl, hu⟩
  · rw [sExp_zero h, ofBits_field 127 _ (by decide), fieldPow_eq (by omega) (by omega)]
    unfold scaleExp
    rw [if_neg hy, show (0 : EReal) = (((0 : ℤ) : ℝ) : EReal) by simp, pow_two_int]
    simp
  · rw [ef, sExp_field h1 h2, ofBits_field (r + 1) _ (by
      congr 1
      apply BitVec.eq_of_toNat_eq
      simp only [BitVec.toNat_add, BitVec.toNat_sub, BitVec.toNat_ofNat]
      omega), fieldPow_eq (by omega) (by omega)]
    rw [fieldPow_eq (by omega) (by omega)] at hl hu
    rw [scaleExp_of hy ((r : ℤ) - 127) hl (by
      have : ((r : ℤ) - 127 + 1) = ((r + 1 : ℕ) : ℤ) - 127 := by push_cast; ring
      rw [this]; exact hu), pow_two_int]
    congr 2
    push_cast
    ring

/-- The kernel's inverse scale is two to the minus the reference's exponent. -/
theorem sInv_eq (y : EReal) : sInv y = Ideal.pow 2 (-(scaleExp y)) := by
  unfold sInv
  rcases field_cases y with ⟨hy, h⟩ | ⟨r, h1, h2, hy, ef, hl, hu⟩
  · rw [sExp_zero h, ofBits_field 127 _ (by decide), fieldPow_eq (by omega) (by omega)]
    unfold scaleExp
    rw [if_neg hy, neg_zero, show (0 : EReal) = (((0 : ℤ) : ℝ) : EReal) by simp, pow_two_int]
    simp
  · rw [ef, sExp_field h1 h2, ofBits_field (253 - r) _ (by
      congr 1
      apply BitVec.eq_of_toNat_eq
      simp only [BitVec.toNat_sub, BitVec.toNat_ofNat]
      omega), fieldPow_eq (by omega) (by omega)]
    rw [fieldPow_eq (by omega) (by omega)] at hl hu
    rw [scaleExp_of hy ((r : ℤ) - 127) hl (by
      have : ((r : ℤ) - 127 + 1) = ((r + 1 : ℕ) : ℤ) - 127 := by push_cast; ring
      rw [this]; exact hu), ← EReal.coe_neg, ← Int.cast_neg, pow_two_int]
    congr 2
    have : ((253 - r : ℕ) : ℤ) = 253 - (r : ℤ) := by omega
    rw [this]
    ring

end Cert.Proof

end
-- ==== Proof.Softmax.lean ====
/- One row of attention over the extended reals: the kernel's base-two softmax with the sum divided out last is the
   reference's softmax. -/
module

public import Idealize.ShloMosaic.Lib.Pointwise

@[expose] public section

noncomputable section

namespace Cert.Proof

open Idealize.ShloMosaic

variable {n : Nat}

/-- The largest of finitely many extended reals, from `⊥`. -/
def top (S : Fin n → EReal) : EReal := Finset.univ.fold max ⊥ S

/-- The kernel's scores: each row scale carries the factor `κ`. -/
def kerScore (κ : EReal) (ac bd : Fin n → EReal) (su sw ks ps : EReal) (j : Fin n) : EReal :=
  ac j * (su * (ks * κ)) + bd j * (sw * (ps * κ))

/-- The kernel's row: weights two to the score less the largest, the values' sum times scale over weight sum. -/
def kerRow (κ : EReal) (ac bd : Fin n → EReal) (su sw ks ps vs : EReal) (v : Fin n → EReal) : EReal :=
  (∑ j, Ideal.exp2 (kerScore κ ac bd su sw ks ps j - top (kerScore κ ac bd su sw ks ps)) * v j)
    * Ideal.div vs (∑ j, Ideal.exp2 (kerScore κ ac bd su sw ks ps j - top (kerScore κ ac bd su sw ks ps)))

/-- The reference's scores, over a divisor `r`. -/
def refScore (r : EReal) (ac bd : Fin n → EReal) (su sw ks ps : EReal) (j : Fin n) : EReal :=
  Ideal.div (ac j * (su * ks) + bd j * (sw * ps)) r

/-- The reference's row: the softmax, then the values' sum, then the values' scale. -/
def refRow (r : EReal) (ac bd : Fin n → EReal) (su sw ks ps vs : EReal) (v : Fin n → EReal) : EReal :=
  (∑ j, v j * (Ideal.exp (refScore r ac bd su sw ks ps j - top (refScore r ac bd su sw ks ps))
    * Ideal.div 1 (0 + ∑ j, Ideal.exp (refScore r ac bd su sw ks ps j - top (refScore r ac bd su sw ks ps))))) * vs

theorem add_mul_coe (a b : EReal) {c : ℝ} (hc : 0 < c) : (a + b) * (c : EReal) = a * c + b * c :=
  EReal.right_distrib_of_nonneg_of_ne_top (EReal.coe_nonneg.mpr hc.le) (EReal.coe_ne_top c) a b

theorem sum_mul_coe {ι : Type} (s : Finset ι) (f : ι → EReal) {c : ℝ} (hc : 0 < c) :
    (∑ j ∈ s, f j) * (c : EReal) = ∑ j ∈ s, f j * c := by
  classical
  induction s using Finset.induction_on with
  | empty => simp
  | insert a s ha ih => rw [Finset.sum_insert ha, Finset.sum_insert ha, add_mul_coe _ _ hc, ih]

theorem max_mul_coe (a b : EReal) {c : ℝ} (hc : 0 < c) : max a b * (c : EReal) = max (a * c) (b * c) := by
  have hm : Monotone fun x : EReal => x * (c : EReal) :=
    fun x y h => mul_le_mul_of_nonneg_right h (EReal.coe_nonneg.mpr hc.le)
  exact hm.map_max

theorem top_mul_coe (S : Fin n → EReal) {c : ℝ} (hc : 0 < c) : top (fun j => S j * (c : EReal)) = top S * c := by
  classical
  unfold top
  induction (Finset.univ : Finset (Fin n)) using Finset.induction_on with
  | empty => simp [EReal.bot_mul_coe_of_pos hc]
  | insert a s ha ih => rw [Finset.fold_insert ha, Finset.fold_insert ha, max_mul_coe _ _ hc, ih]

theorem le_top' (S : Fin n → EReal) (j : Fin n) : S j ≤ top S := by
  unfold top
  exact (Finset.le_fold_max _).mpr (.inr ⟨j, Finset.mem_univ j, le_refl _⟩)

theorem top_mem (S : Fin n → EReal) : top S = ⊥ ∨ ∃ j, top S = S j := by
  classical
  unfold top
  induction (Finset.univ : Finset (Fin n)) using Finset.induction_on with
  | empty => left; simp
  | insert a s ha ih =>
    rw [Finset.fold_insert ha]
    rcases max_choice (S a) (s.fold max ⊥ S) with h | h
    · exact .inr ⟨a, h⟩
    · rw [h]; exact ih

theorem exp2_scaled (z : EReal) : Ideal.exp2 (z * (((Real.log 2)⁻¹ : ℝ) : EReal)) = Ideal.exp z := by
  have hl : (0 : ℝ) < Real.log 2 := Real.log_pos (by norm_num)
  have hc : (0 : ℝ) < (Real.log 2)⁻¹ := inv_pos.mpr hl
  induction z using EReal.rec with
  | bot => rw [EReal.bot_mul_coe_of_pos hc]; rfl
  | top => rw [EReal.top_mul_coe_of_pos hc]; rfl
  | coe z =>
    rw [← EReal.coe_mul]
    show ((Real.rpow 2 (z * (Real.log 2)⁻¹) : ℝ) : EReal) = ((Real.exp z : ℝ) : EReal)
    congr 1
    show (2 : ℝ) ^ (z * (Real.log 2)⁻¹) = _
    rw [Real.rpow_def_of_pos (by norm_num)]
    congr 1
    field_simp

theorem sub_mul_coe (a b : EReal) {c : ℝ} (hc : 0 < c) : a * (c : EReal) - b * c = (a - b) * c := by
  rw [sub_eq_add_neg, sub_eq_add_neg, add_mul_coe _ _ hc, EReal.neg_mul]

/-- The weights of a row, in the two bases. -/
theorem exp2_sub_top (S : Fin n → EReal) (j : Fin n) :
    Ideal.exp2 (S j * (((Real.log 2)⁻¹ : ℝ) : EReal) - top (fun j => S j * (((Real.log 2)⁻¹ : ℝ) : EReal)))
      = Ideal.exp (S j - top S) := by
  have hc : (0 : ℝ) < (Real.log 2)⁻¹ := inv_pos.mpr (Real.log_pos (by norm_num))
  rw [top_mul_coe S hc, sub_mul_coe _ _ hc, exp2_scaled]

/-- A row's weights are all zero, or all real with a positive sum. -/
theorem weights_cases (S : Fin n → EReal) :
    (∀ j, Ideal.exp (S j - top S) = 0) ∨
    ∃ e : Fin n → ℝ, (∀ j, Ideal.exp (S j - top S) = ((e j : ℝ) : EReal)) ∧ 0 < ∑ j, e j := by
  induction hm : top S using EReal.rec with
  | bot =>
    left
    intro j
    have : S j = ⊥ := le_bot_iff.mp (hm ▸ le_top' S j)
    rw [this]; rfl
  | top =>
    left
    intro j
    rw [sub_eq_add_neg, EReal.neg_top, EReal.add_bot]; rfl
  | coe m =>
    right
    have he (j : Fin n) : ∃ e : ℝ, Ideal.exp (S j - (m : EReal)) = ((e : ℝ) : EReal) ∧ 0 ≤ e := by
      have hl := le_top' S j
      rw [hm] at hl
      induction hs : S j using EReal.rec with
      | bot => exact ⟨0, by rw [EReal.bot_sub]; rfl, le_refl _⟩
      | top =>
        rw [hs] at hl
        exact absurd hl (not_le.mpr (EReal.coe_lt_top m))
      | coe s => exact ⟨Real.exp (s - m), by rw [← EReal.coe_sub]; rfl, (Real.exp_pos _).le⟩
    choose e he h0 using he
    refine ⟨e, he, ?_⟩
    rcases top_mem S with hb | ⟨j, hj⟩
    · rw [hm] at hb; exact absurd hb (EReal.coe_ne_bot m)
    · refine Finset.sum_pos' (fun j _ => h0 j) ⟨j, Finset.mem_univ j, ?_⟩
      have := he j
      rw [← hj, hm, ← EReal.coe_sub, sub_self] at this
      have h1 : Ideal.exp ((0 : ℝ) : EReal) = ((1 : ℝ) : EReal) := by
        show ((Real.exp 0 : ℝ) : EReal) = _
        rw [Real.exp_zero]
      rw [h1, EReal.coe_eq_coe_iff] at this
      rw [← this]; exact one_pos

theorem coe_sum (e : Fin n → ℝ) : (∑ j, ((e j : ℝ) : EReal)) = ((∑ j, e j : ℝ) : EReal) := by
  classical
  induction (Finset.univ : Finset (Fin n)) using Finset.induction_on with
  | empty => simp
  | insert a s ha ih => rw [Finset.sum_insert ha, Finset.sum_insert ha, ih, EReal.coe_add]

/-- Dividing the values' sum by the weights' sum, or the weights first. -/
theorem sum_div (S v : Fin n → EReal) (vs : EReal) :
    (∑ j, Ideal.exp (S j - top S) * v j) * Ideal.div vs (∑ j, Ideal.exp (S j - top S)) =
    (∑ j, v j * (Ideal.exp (S j - top S) * Ideal.div 1 (0 + ∑ j, Ideal.exp (S j - top S)))) * vs := by
  rcases weights_cases S with h | ⟨e, h, hp⟩
  · simp only [h, zero_mul, mul_zero, Finset.sum_const_zero]
  · have hz : ((∑ j, e j : ℝ) : EReal) ≠ 0 := by rw [Ne, EReal.coe_eq_zero]; exact hp.ne'
    simp only [h, zero_add, coe_sum]
    unfold Ideal.div
    rw [if_neg hz, if_neg hz, ← EReal.coe_inv, one_mul]
    have hc : 0 < (∑ j, e j)⁻¹ := inv_pos.mpr hp
    have : ∀ j, v j * (((e j : ℝ) : EReal) * (((∑ j, e j)⁻¹ : ℝ) : EReal)) = (((e j : ℝ) : EReal) * v j) * (((∑ j, e j)⁻¹ : ℝ) : EReal) := by
      intro j; rw [← mul_assoc, mul_comm (v j)]
    rw [Finset.sum_congr rfl fun j _ => this j, ← sum_mul_coe _ _ hc, mul_assoc, mul_comm vs]

/-- The kernel's scores are the reference's over ln 2. -/
theorem kerScore_eq (ac bd : Fin n → EReal) (su sw ks ps : EReal) (j : Fin n) :
    kerScore ((((Real.log 2) * (Real.sqrt 96))⁻¹ : ℝ) : EReal) ac bd su sw ks ps j
      = refScore ((Real.sqrt 96 : ℝ) : EReal) ac bd su sw ks ps j * (((Real.log 2)⁻¹ : ℝ) : EReal) := by
  have hl : (0 : ℝ) < Real.log 2 := Real.log_pos (by norm_num)
  have hr : (0 : ℝ) < Real.sqrt 96 := Real.sqrt_pos.mpr (by norm_num)
  have hz : ((Real.sqrt 96 : ℝ) : EReal) ≠ 0 := by rw [Ne, EReal.coe_eq_zero]; exact hr.ne'
  have hk : (0 : ℝ) < ((Real.log 2) * (Real.sqrt 96))⁻¹ := inv_pos.mpr (mul_pos hl hr)
  unfold kerScore refScore Ideal.div
  rw [if_neg hz, ← EReal.coe_inv, mul_assoc, ← EReal.coe_mul]
  have e : (Real.sqrt 96)⁻¹ * (Real.log 2)⁻¹ = ((Real.log 2) * (Real.sqrt 96))⁻¹ := by rw [mul_inv, mul_comm]
  rw [e, add_mul_coe _ _ hk]
  simp only [mul_assoc]

/-- The kernel's row is the reference's. -/
theorem kerRow_eq (ac bd : Fin n → EReal) (su sw ks ps vs : EReal) (v : Fin n → EReal) :
    kerRow ((((Real.log 2) * (Real.sqrt 96))⁻¹ : ℝ) : EReal) ac bd su sw ks ps vs v
      = refRow ((Real.sqrt 96 : ℝ) : EReal) ac bd su sw ks ps vs v := by
  have h : kerScore ((((Real.log 2) * (Real.sqrt 96))⁻¹ : ℝ) : EReal) ac bd su sw ks ps
      = fun j => refScore ((Real.sqrt 96 : ℝ) : EReal) ac bd su sw ks ps j * (((Real.log 2)⁻¹ : ℝ) : EReal) :=
    funext fun j => kerScore_eq ac bd su sw ks ps j
  unfold kerRow refRow
  rw [h]
  simp only [exp2_sub_top]
  exact sum_div _ _ _

end Cert.Proof

end
-- ==== Proof.HeadRead.lean ====
/- The arithmetic of `Step` read at an index, over the extended reals: the quantiser. -/
module

public import proofs.«01_k».proof.Proof.Quant
public import proofs.«01_k».proof.Proof.Softmax

@[expose] public section

noncomputable section

namespace Cert.Proof

open Idealize.ShloMosaic Idealize.SL.Sem Cert.KernelIdeal Cert.KernelIdeal.Gen

/-- The quotient that picks a row's scale: the largest magnitude times 1/448. -/
def quotient {n : Nat} (x : Fin n → EReal) : EReal := top (fun d => max (x d) (-(x d))) * Ideal.ofBits .f32 0x3B124925#32

/-- A row's scale, its inverse, and a code of the row. -/
def rowScl {n : Nat} (x : Fin n → EReal) : EReal := Ideal.pow 2 (scaleExp (quotient x))
def rowInv {n : Nat} (x : Fin n → EReal) : EReal := Ideal.pow 2 (-(scaleExp (quotient x)))
def rowCode {n : Nat} (x : Fin n → EReal) (d : Fin n) : EReal :=
  min (Ideal.ofBits .f32 0x43E00000#32) (max (Ideal.ofBits .f32 0xC3E00000#32) (x d * rowInv x))

theorem biased_apply (q : FVec Ideal S1x1x96x640 .bf16) (b : FVec Ideal S1x96x1 .f32) (d : Fin 96) (i : Fin 640) :
    biased q b (ix2 d i) = q (ix4 0 0 d i) + b (ix3 0 d 0) := by
  unfold biased
  pointwise

theorem ofBits_neg_inf : Ideal.ofBits .f32 0xFF800000#32 = ⊥ := by
  rw [ofBits_f32]
  unfold Ideal.ieee
  have hn : (BitVec.extractLsb' (8 + 23) 1 0xFF800000#32 == 1#1) = true := by decide
  have hx : (BitVec.extractLsb' 23 8 0xFF800000#32).toNat = 2 ^ 8 - 1 := by decide
  have hf : (BitVec.extractLsb' 0 23 0xFF800000#32).toNat = 0 := by decide
  simp only [hn, hx, hf]
  simp

theorem quot_apply (x : FVec Ideal S96x640 .f32) (i : Fin 640) :
    quot x (ix2 0 i) = quotient fun d => x (ix2 d i) := by
  unfold quot
  pointwise
  rw [ofBits_neg_inf]
  rfl

theorem fieldBit_apply (y : FVec Ideal S1x640 .f32) (b : BitVec 32) (f : IVec S1x640 32) (j : S1x640.Idx) :
    fieldBit y b f j = sBit (y j) b (f j) := rfl

theorem fieldOf_apply (y : FVec Ideal S1x640 .f32) (j : S1x640.Idx) : fieldOf y j = sField (y j) := by
  unfold fieldOf sField
  pointwise
  simp only [fieldBit_apply]
  rfl

theorem sclOf_apply (f : IVec S1x640 32) (j : S1x640.Idx) :
    sclOf (F := Ideal) (expOf f) j = Ideal.ofBits .f32 (IntOp.shli .vector (127#32 + sExp (f j)) 23#32) := rfl

theorem invOf_apply (f : IVec S1x640 32) (j : S1x640.Idx) :
    invOf (F := Ideal) (expOf f) j = Ideal.ofBits .f32 (IntOp.shli .vector (127#32 - sExp (f j)) 23#32) := rfl

theorem scales_apply (x : FVec Ideal S96x640 .f32) (i : Fin 640) :
    scales x (ix2 0 i) = rowScl fun d => x (ix2 d i) := by
  unfold scales
  rw [sclOf_apply, fieldOf_apply, quot_apply]
  exact sScale_eq _

theorem inv_apply (x : FVec Ideal S96x640 .f32) (i : Fin 640) :
    invOf (F := Ideal) (expOf (fieldOf (quot x))) (ix2 0 i) = rowInv fun d => x (ix2 d i) := by
  rw [invOf_apply, fieldOf_apply, quot_apply]
  exact sInv_eq _

theorem clipped_apply (x : FVec Ideal S96x640 .f32) (v : FVec Ideal S1x640 .f32) (d : Fin 96) (i : Fin 640) :
    clipped x v (ix2 d i) = min (Ideal.ofBits .f32 0x43E00000#32) (max (Ideal.ofBits .f32 0xC3E00000#32) (x (ix2 d i) * v (ix2 0 i))) := by
  unfold clipped
  pointwise

theorem codes_apply (x : FVec Ideal S96x640 .f32) (d : Fin 96) (i : Fin 640) :
    codes x (ix2 d i) = rowCode (fun d => x (ix2 d i)) d := by
  unfold codes
  rw [clipped_apply, inv_apply]
  rfl

end Cert.Proof

end
-- ==== Proof.TileRead.lean ====
/- The arithmetic of `Step` read at an index, over the extended reals: one block of 128 query rows. -/
module

public import proofs.«01_k».proof.Proof.HeadRead

@[expose] public section

noncomputable section

namespace Cert.Proof

open Idealize.ShloMosaic Idealize.SL.Sem Cert.KernelIdeal Cert.KernelIdeal.Gen

/-- The skewed tile: row `r` at lane `l` is the upper tile at lane `l - r`, or the lower one at lane `l + 128 - r`. -/
theorem skew_apply (hi lo : FVec Ideal S128x128 .f32) (r l : Fin 128) :
    skew hi lo (ix2 r l) = if h : r.val ≤ l.val then hi (ix2 r ⟨l.val - r.val, by omega⟩) else lo (ix2 r ⟨l.val + 128 - r.val, by omega⟩) := by
  unfold skew upperMask
  pointwise
  have cm (x y : Nat) (hx : x < 128) (hy : y < 128) : IntOp.cmpi .slt (IntOp.addi (BitVec.ofNat 32 x) (BitVec.ofNat 32 y)) 128#32
      = BitVec.ofBool (decide (x + y < 128)) := by
    show BitVec.ofBool ((BitVec.ofNat 32 x + BitVec.ofNat 32 y).slt 128#32) = _
    congr 1
    rw [BitVec.slt, ← BitVec.ofNat_add]
    have e1 : (BitVec.ofNat 32 (x + y)).toInt = ((x + y : ℕ) : ℤ) := by
      rw [BitVec.toInt_ofNat', Int.bmod_eq_of_le (by norm_num; omega) (by norm_num; omega)]
    have e2 : (128#32).toInt = 128 := by decide
    rw [e1, e2]
    exact decide_eq_decide.mpr (by omega)
  rw [cm _ _ r.isLt (Nat.mod_lt _ (by omega))]
  by_cases h : r.val ≤ l.val
  · have e : (l.val + 128 - r.val % 128) % 128 = l.val - r.val := by omega
    rw [dif_pos h, decide_eq_true (by omega)]
    show hi _ = _
    congr 2
    exact Fin.ext e
  · have e : (l.val + 128 - r.val % 128) % 128 = l.val + 128 - r.val := by omega
    rw [dif_neg h, decide_eq_false (by omega)]
    show lo _ = _
    congr 2
    exact Fin.ext e

theorem rowsOf_apply (c : FVec Ideal S96x128 .fp8e4m3) (r : Fin 128) (d : Fin 96) : rowsOf c (ix2 r d) = c (ix2 d r) := by
  unfold rowsOf
  pointwise

theorem colOf_apply (s : FVec Ideal S1x128 .f32) (r l : Fin 128) : colOf s (ix2 r l) = s (ix2 0 r) := by
  unfold colOf
  pointwise

theorem posTile_apply (c : FVec Ideal S96x128 .fp8e4m3) (s : FVec Ideal S1x128 .f32) (p : FVec Ideal S96x128 .fp8e4m3) (r l : Fin 128) :
    posTile (rowsOf c) (colOf s) p (ix2 r l) = (∑ d : Fin 96, c (ix2 d r) * p (ix2 d l)) * s (ix2 0 r) := by
  unfold posTile rowsOf colOf
  pointwise

theorem weights_apply (st : FVec Ideal S128x640 .f32) (r : Fin 128) (j : Fin 640) :
    weights st (ix2 r j) = Ideal.exp2 (st (ix2 r j) - top fun j => st (ix2 r j)) := by
  unfold weights
  pointwise
  rw [ofBits_neg_inf]
  rfl

theorem context_apply (e : FVec Ideal S128x640 .f32) (vt : FVec Ideal S96x640 .bf16) (vs : Ideal .f32) (r : Fin 128) (d : Fin 96) :
    context e vt vs (ix2 r d) = (∑ j, e (ix2 r j) * vt (ix2 d j)) * Ideal.div vs (∑ j, e (ix2 r j)) := by
  unfold context
  pointwise

section

variable (kt : FVec Ideal S96x640 .fp8e4m3) (qu qv : FVec Ideal S96x128 .fp8e4m3) (su sv : FVec Ideal S1x128 .f32)
  (p0 p1 p2 p3 p4 p5 : FVec Ideal S96x128 .fp8e4m3)

theorem scores_apply0 (r l : Fin 128) :
    scores kt qu qv su sv p0 p1 p2 p3 p4 p5 (ix2 r ⟨0 + l.val, by omega⟩) =
      (∑ x : Fin 96, qu (ix2 x r) * kt (ix2 x ⟨0 + l.val, by omega⟩)) * su (ix2 0 r) +
        skew (posTile (rowsOf qv) (colOf sv) p1) (posTile (rowsOf qv) (colOf sv) p0) (ix2 r l) := by
  unfold scores scoreTile
  pointwise
  simp only [rowsOf_apply, colOf_apply]

theorem scores_apply1 (r l : Fin 128) :
    scores kt qu qv su sv p0 p1 p2 p3 p4 p5 (ix2 r ⟨128 + l.val, by omega⟩) =
      (∑ x : Fin 96, qu (ix2 x r) * kt (ix2 x ⟨128 + l.val, by omega⟩)) * su (ix2 0 r) +
        skew (posTile (rowsOf qv) (colOf sv) p2) (posTile (rowsOf qv) (colOf sv) p1) (ix2 r l) := by
  unfold scores scoreTile
  pointwise
  simp only [rowsOf_apply, colOf_apply]

theorem scores_apply2 (r l : Fin 128) :
    scores kt qu qv su sv p0 p1 p2 p3 p4 p5 (ix2 r ⟨256 + l.val, by omega⟩) =
      (∑ x : Fin 96, qu (ix2 x r) * kt (ix2 x ⟨256 + l.val, by omega⟩)) * su (ix2 0 r) +
        skew (posTile (rowsOf qv) (colOf sv) p3) (posTile (rowsOf qv) (colOf sv) p2) (ix2 r l) := by
  unfold scores scoreTile
  pointwise
  simp only [rowsOf_apply, colOf_apply]
  have e : 256 + l.val - 128 - 128 = l.val := by omega
  rw [dif_neg (by omega), dif_neg (by omega), dif_pos (by omega)]
  simp only [e]

theorem scores_apply3 (r l : Fin 128) :
    scores kt qu qv su sv p0 p1 p2 p3 p4 p5 (ix2 r ⟨384 + l.val, by omega⟩) =
      (∑ x : Fin 96, qu (ix2 x r) * kt (ix2 x ⟨384 + l.val, by omega⟩)) * su (ix2 0 r) +
        skew (posTile (rowsOf qv) (colOf sv) p4) (posTile (rowsOf qv) (colOf sv) p3) (ix2 r l) := by
  unfold scores scoreTile
  pointwise
  simp only [rowsOf_apply, colOf_apply]
  have e : 384 + l.val - 128 - 128 - 128 = l.val := by omega
  rw [dif_neg (by omega), dif_neg (by omega), dif_neg (by omega), dif_pos (by omega)]
  simp only [e]

theorem scores_apply4 (r l : Fin 128) :
    scores kt qu qv su sv p0 p1 p2 p3 p4 p5 (ix2 r ⟨512 + l.val, by omega⟩) =
      (∑ x : Fin 96, qu (ix2 x r) * kt (ix2 x ⟨512 + l.val, by omega⟩)) * su (ix2 0 r) +
        skew (posTile (rowsOf qv) (colOf sv) p5) (posTile (rowsOf qv) (colOf sv) p4) (ix2 r l) := by
  unfold scores scoreTile
  pointwise
  simp only [rowsOf_apply, colOf_apply]
  have e : 512 + l.val - 128 - 128 - 128 - 128 = l.val := by omega
  rw [dif_neg (by omega), dif_neg (by omega), dif_neg (by omega), dif_neg (by omega)]
  simp only [e]

/-- The skew of two scaled tiles of position products, when both tiles are cut from one sequence `G` of columns at neighbouring
    places: the product with the column `128 + l - r` past the lower tile's first. -/
theorem skew_posTile (lo hi : FVec Ideal S96x128 .fp8e4m3) (G : Fin 96 → Nat → EReal) (m : Nat)
    (hlo : ∀ d l, lo (ix2 d l) = G d (m + l.val)) (hhi : ∀ d l, hi (ix2 d l) = G d (m + 128 + l.val)) (r l : Fin 128) :
    skew (posTile (rowsOf qv) (colOf sv) hi) (posTile (rowsOf qv) (colOf sv) lo) (ix2 r l) =
      (∑ d : Fin 96, qv (ix2 d r) * G d (m + 128 + l.val - r.val)) * sv (ix2 0 r) := by
  rw [skew_apply]
  by_cases h : r.val ≤ l.val
  · rw [dif_pos h, posTile_apply]
    simp only [hhi]
    rw [show m + 128 + (l.val - r.val) = m + 128 + l.val - r.val by omega]
  · rw [dif_neg h, posTile_apply]
    simp only [hlo]
    rw [show m + (l.val + 128 - r.val) = m + 128 + l.val - r.val by omega]

/-- A statement about every key holds if it holds on each tile of 128. -/
theorem by_tile {P : Fin 640 → Prop} (h0 : ∀ l : Fin 128, P ⟨0 + l.val, by omega⟩) (h1 : ∀ l : Fin 128, P ⟨128 + l.val, by omega⟩)
    (h2 : ∀ l : Fin 128, P ⟨256 + l.val, by omega⟩) (h3 : ∀ l : Fin 128, P ⟨384 + l.val, by omega⟩)
    (h4 : ∀ l : Fin 128, P ⟨512 + l.val, by omega⟩) (j : Fin 640) : P j := by
  have use (o : Nat) (ho : o ≤ 512) (h : ∀ l : Fin 128, P ⟨o + l.val, by omega⟩) (hj : o ≤ j.val) (hj' : j.val < o + 128) : P j := by
    have := h ⟨j.val - o, by omega⟩
    rwa [show (⟨o + (j.val - o), by omega⟩ : Fin 640) = j from Fin.ext (by show o + (j.val - o) = j.val; omega)] at this
  rcases lt_or_ge j.val 128 with hj | hj
  · exact use 0 (by omega) h0 (by omega) (by omega)
  rcases lt_or_ge j.val 256 with hj | hj
  · exact use 128 (by omega) h1 (by omega) (by omega)
  rcases lt_or_ge j.val 384 with hj | hj
  · exact use 256 (by omega) h2 (by omega) (by omega)
  rcases lt_or_ge j.val 512 with hj | hj
  · exact use 384 (by omega) h3 (by omega) (by omega)
  · exact use 512 (by omega) h4 (by omega) (by omega)

/-- A block's scores, when its six tiles of positions are cut one after another from one sequence of columns. -/
theorem scores_apply (G : Fin 96 → Nat → EReal) (m : Nat)
    (h0 : ∀ d l, p0 (ix2 d l) = G d (m + l.val)) (h1 : ∀ d l, p1 (ix2 d l) = G d (m + 128 + l.val))
    (h2 : ∀ d l, p2 (ix2 d l) = G d (m + 256 + l.val)) (h3 : ∀ d l, p3 (ix2 d l) = G d (m + 384 + l.val))
    (h4 : ∀ d l, p4 (ix2 d l) = G d (m + 512 + l.val)) (h5 : ∀ d l, p5 (ix2 d l) = G d (m + 640 + l.val))
    (r : Fin 128) (j : Fin 640) :
    scores kt qu qv su sv p0 p1 p2 p3 p4 p5 (ix2 r j) =
      (∑ x : Fin 96, qu (ix2 x r) * kt (ix2 x j)) * su (ix2 0 r) +
        (∑ d : Fin 96, qv (ix2 d r) * G d (m + 128 + j.val - r.val)) * sv (ix2 0 r) := by
  revert j
  refine by_tile ?_ ?_ ?_ ?_ ?_ <;> intro l
  · rw [scores_apply0, skew_posTile qv sv p0 p1 G m h0 h1, show m + 128 + (0 + l.val) = m + 128 + l.val by omega]
  · rw [scores_apply1, skew_posTile qv sv p1 p2 G (m + 128) h1 h2]
    simp only [Nat.add_assoc]
  · rw [scores_apply2, skew_posTile qv sv p2 p3 G (m + 256) h2 h3, show m + 256 + 128 = m + 128 + 256 by omega]
    simp only [Nat.add_assoc]
  · rw [scores_apply3, skew_posTile qv sv p3 p4 G (m + 384) h3 h4, show m + 384 + 128 = m + 128 + 384 by omega]
    simp only [Nat.add_assoc]
  · rw [scores_apply4, skew_posTile qv sv p4 p5 G (m + 512) h4 h5, show m + 512 + 128 = m + 128 + 512 by omega]
    simp only [Nat.add_assoc]

end

/-- The factor both row scales carry. -/
def kap : EReal := ((((Real.log 2) * (Real.sqrt 96))⁻¹ : ℝ) : EReal)

theorem rowScale_apply (s : FVec Ideal S1x640 .f32) (c : Ideal .f32) (i : Fin 640) :
    rowScale s c (ix2 0 i) = s (ix2 0 i) * (c * kap) := by
  unfold rowScale
  rw [show (Named.named κ "log2e_scale" 0x3E16C740#32 : Ideal .f32) = kap from IdealRules.named_const.ideal_named_scalar _ _ _ _ rfl]
  rfl

/-- The stored tile at row `r`, channel `d`: the kernel's row of attention for query `o + r`. -/
theorem tile_apply (kt : FVec Ideal S96x640 .fp8e4m3) (vt : FVec Ideal S96x640 .bf16) (vs : Ideal .f32) (cu cw : FVec Ideal S96x640 .fp8e4m3)
    (su sw : FVec Ideal S1x640 .f32) (ks ps : Ideal .f32) (o : Nat) (hc : S96x640.Slices ![0, o] S96x128) (hs : S1x640.Slices ![0, o] S1x128)
    (p0 p1 p2 p3 p4 p5 : FVec Ideal S96x128 .fp8e4m3) (G : Fin 96 → Nat → EReal) (m : Nat)
    (h0 : ∀ d l, p0 (ix2 d l) = G d (m + l.val)) (h1 : ∀ d l, p1 (ix2 d l) = G d (m + 128 + l.val))
    (h2 : ∀ d l, p2 (ix2 d l) = G d (m + 256 + l.val)) (h3 : ∀ d l, p3 (ix2 d l) = G d (m + 384 + l.val))
    (h4 : ∀ d l, p4 (ix2 d l) = G d (m + 512 + l.val)) (h5 : ∀ d l, p5 (ix2 d l) = G d (m + 640 + l.val))
    (r : Fin 128) (d : Fin 96) (i : Fin 640) (hi : i.val = o + r.val) :
    tile kt vt vs cu cw (rowScale su ks) (rowScale sw ps) o hc hs p0 p1 p2 p3 p4 p5 (ix3 0 r d) =
      kerRow kap (fun j => ∑ x : Fin 96, cu (ix2 x i) * kt (ix2 x j))
        (fun j => ∑ x : Fin 96, cw (ix2 x i) * G x (m + 128 + j.val - r.val)) (su (ix2 0 i)) (sw (ix2 0 i)) ks ps vs
        (fun j => vt (ix2 d j)) := by
  have e2 {φ : FTy} (X : FVec Ideal S96x640 φ) (x : Fin 96) : extractStridedSlice S96x128 ![0, o] X hc (ix2 x r) = X (ix2 x i) := by
    show X _ = X _
    congr 1
    funext a
    apply Fin.ext
    fin_cases a
    · show 0 + x.val = x.val; omega
    · show o + r.val = i.val; omega
  have e1 (X : FVec Ideal S1x640 .f32) : extractStridedSlice S1x128 ![0, o] X hs (ix2 0 r) = X (ix2 0 i) := by
    show X _ = X _
    congr 1
    funext a
    apply Fin.ext
    fin_cases a
    · rfl
    · show o + r.val = i.val; omega
  unfold tile
  have ec (X : FVec Ideal S128x96 .bf16) : shapeCast S1x128x96 X shapeCasts_S128x96_S1x128x96 (ix3 0 r d) = X (ix2 r d) := by pointwise
  rw [ec, context_apply]
  simp only [weights_apply, scores_apply _ _ _ _ _ _ _ _ _ _ _ G m h0 h1 h2 h3 h4 h5, e2, e1, rowScale_apply]
  rfl

/-! ## One head -/

/-- A head's position table over a sequence of columns, the first and the last repeated: column `n` is position `n - 256`. -/
def HeadIn.col (H : HeadIn Ideal) (d : Fin 96) (n : Nat) : EReal := H.p (ix3 0 d ⟨min (n - 256) 768, by omega⟩)

/-- A head's row of attention: query `i`, channel `d`. -/
def HeadIn.row (H : HeadIn Ideal) (i : Fin 640) (d : Fin 96) : EReal :=
  kerRow kap (fun j => ∑ x : Fin 96, H.cu (ix2 x i) * H.k (ix4 0 0 x j))
    (fun j => ∑ x : Fin 96, H.cw (ix2 x i) * H.col x (640 + j.val - i.val)) (H.su (ix2 0 i)) (H.sw (ix2 0 i)) H.ks H.ps H.vs
    (fun j => H.v (ix4 0 0 d j))

section

variable (H : HeadIn Ideal)

theorem HeadIn.kt_apply (x : Fin 96) (j : Fin 640) : H.kt (ix2 x j) = H.k (ix4 0 0 x j) := by
  unfold HeadIn.kt; pointwise
theorem HeadIn.vt_apply (x : Fin 96) (j : Fin 640) : H.vt (ix2 x j) = H.v (ix4 0 0 x j) := by
  unfold HeadIn.vt; pointwise

theorem HeadIn.t0_apply (d : Fin 96) (l : Fin 128) : H.t0 (ix2 d l) = H.col d (256 + l.val) := by
  unfold HeadIn.t0 HeadIn.pt HeadIn.col
  pointwise
  congr 2
  exact Fin.ext (by simp only []; omega)

theorem HeadIn.t1_apply (d : Fin 96) (l : Fin 128) : H.t1 (ix2 d l) = H.col d (384 + l.val) := by
  unfold HeadIn.t1 HeadIn.pt HeadIn.col
  pointwise
  congr 2
  exact Fin.ext (by show 128 + l.val = min (384 + l.val - 256) 768; omega)

theorem HeadIn.t2_apply (d : Fin 96) (l : Fin 128) : H.t2 (ix2 d l) = H.col d (512 + l.val) := by
  unfold HeadIn.t2 HeadIn.pt HeadIn.col
  pointwise
  congr 2
  exact Fin.ext (by show 256 + l.val = min (512 + l.val - 256) 768; omega)

theorem HeadIn.t3_apply (d : Fin 96) (l : Fin 128) : H.t3 (ix2 d l) = H.col d (640 + l.val) := by
  unfold HeadIn.t3 HeadIn.pt HeadIn.col
  pointwise
  congr 2
  exact Fin.ext (by show 384 + l.val = min (640 + l.val - 256) 768; omega)

theorem HeadIn.t4_apply (d : Fin 96) (l : Fin 128) : H.t4 (ix2 d l) = H.col d (768 + l.val) := by
  unfold HeadIn.t4 HeadIn.pt HeadIn.col
  pointwise
  congr 2
  exact Fin.ext (by show 512 + l.val = min (768 + l.val - 256) 768; omega)

theorem HeadIn.t5_apply (d : Fin 96) (l : Fin 128) : H.t5 (ix2 d l) = H.col d (896 + l.val) := by
  unfold HeadIn.t5 HeadIn.pt HeadIn.col
  pointwise
  congr 2
  exact Fin.ext (by show 640 + l.val = min (896 + l.val - 256) 768; omega)

theorem HeadIn.lo_apply (d : Fin 96) (n : Nat) (hn : n ≤ 256) (l : Fin 128) : H.lo (ix2 d l) = H.col d n := by
  unfold HeadIn.lo HeadIn.t0 HeadIn.pt HeadIn.col
  pointwise
  congr 2
  exact Fin.ext (by show 0 = min (n - 256) 768; omega)

theorem HeadIn.hi_apply (hl : ∀ d l, H.pl (ix3 0 d l) = H.p (ix3 0 d ⟨641 + l.val, by omega⟩)) (d : Fin 96) (n : Nat) (hn : 1024 ≤ n)
    (l : Fin 128) : H.hi (ix2 d l) = H.col d n := by
  unfold HeadIn.hi HeadIn.col
  pointwise
  rw [hl]
  congr 2
  exact Fin.ext (by show 641 + 127 = min (n - 256) 768; omega)

theorem HeadIn.o0_apply (hl : ∀ d l, H.pl (ix3 0 d l) = H.p (ix3 0 d ⟨641 + l.val, by omega⟩)) (r : Fin 128) (d : Fin 96) (i : Fin 640)
    (hi : i.val = 0 + r.val) : H.o0 (ix3 0 r d) = H.row i d := by
  unfold HeadIn.o0 HeadIn.ru HeadIn.rw
  rw [tile_apply H.kt H.vt H.vs H.cu H.cw H.su H.sw H.ks H.ps _ _ _ _ _ _ _ _ _ H.col 512
    (fun d l => H.t2_apply d l) (fun d l => H.t3_apply d l) (fun d l => H.t4_apply d l) (fun d l => H.t5_apply d l) (fun d l => H.hi_apply hl d _ (by omega) l) (fun d l => H.hi_apply hl d _ (by omega) l) r d i hi]
  unfold HeadIn.row
  simp only [HeadIn.kt_apply, HeadIn.vt_apply]
  have e (j : Fin 640) : 512 + 128 + j.val - r.val = 640 + j.val - i.val := by omega
  simp only [e]

theorem HeadIn.o1_apply (hl : ∀ d l, H.pl (ix3 0 d l) = H.p (ix3 0 d ⟨641 + l.val, by omega⟩)) (r : Fin 128) (d : Fin 96) (i : Fin 640)
    (hi : i.val = 128 + r.val) : H.o1 (ix3 0 r d) = H.row i d := by
  unfold HeadIn.o1 HeadIn.ru HeadIn.rw
  rw [tile_apply H.kt H.vt H.vs H.cu H.cw H.su H.sw H.ks H.ps _ _ _ _ _ _ _ _ _ H.col 384
    (fun d l => H.t1_apply d l) (fun d l => H.t2_apply d l) (fun d l => H.t3_apply d l) (fun d l => H.t4_apply d l) (fun d l => H.t5_apply d l) (fun d l => H.hi_apply hl d _ (by omega) l) r d i hi]
  unfold HeadIn.row
  simp only [HeadIn.kt_apply, HeadIn.vt_apply]
  have e (j : Fin 640) : 384 + 128 + j.val - r.val = 640 + j.val - i.val := by omega
  simp only [e]

theorem HeadIn.o2_apply (hl : ∀ d l, H.pl (ix3 0 d l) = H.p (ix3 0 d ⟨641 + l.val, by omega⟩)) (r : Fin 128) (d : Fin 96) (i : Fin 640)
    (hi : i.val = 256 + r.val) : H.o2 (ix3 0 r d) = H.row i d := by
  unfold HeadIn.o2 HeadIn.ru HeadIn.rw
  rw [tile_apply H.kt H.vt H.vs H.cu H.cw H.su H.sw H.ks H.ps _ _ _ _ _ _ _ _ _ H.col 256
    (fun d l => H.t0_apply d l) (fun d l => H.t1_apply d l) (fun d l => H.t2_apply d l) (fun d l => H.t3_apply d l) (fun d l => H.t4_apply d l) (fun d l => H.t5_apply d l) r d i hi]
  unfold HeadIn.row
  simp only [HeadIn.kt_apply, HeadIn.vt_apply]
  have e (j : Fin 640) : 256 + 128 + j.val - r.val = 640 + j.val - i.val := by omega
  simp only [e]

theorem HeadIn.o3_apply (hl : ∀ d l, H.pl (ix3 0 d l) = H.p (ix3 0 d ⟨641 + l.val, by omega⟩)) (r : Fin 128) (d : Fin 96) (i : Fin 640)
    (hi : i.val = 384 + r.val) : H.o3 (ix3 0 r d) = H.row i d := by
  unfold HeadIn.o3 HeadIn.ru HeadIn.rw
  rw [tile_apply H.kt H.vt H.vs H.cu H.cw H.su H.sw H.ks H.ps _ _ _ _ _ _ _ _ _ H.col 128
    (fun d l => H.lo_apply d _ (by omega) l) (fun d l => H.t0_apply d l) (fun d l => H.t1_apply d l) (fun d l => H.t2_apply d l) (fun d l => H.t3_apply d l) (fun d l => H.t4_apply d l) r d i hi]
  unfold HeadIn.row
  simp only [HeadIn.kt_apply, HeadIn.vt_apply]
  have e (j : Fin 640) : 128 + 128 + j.val - r.val = 640 + j.val - i.val := by omega
  simp only [e]

theorem HeadIn.o4_apply (hl : ∀ d l, H.pl (ix3 0 d l) = H.p (ix3 0 d ⟨641 + l.val, by omega⟩)) (r : Fin 128) (d : Fin 96) (i : Fin 640)
    (hi : i.val = 512 + r.val) : H.o4 (ix3 0 r d) = H.row i d := by
  unfold HeadIn.o4 HeadIn.ru HeadIn.rw
  rw [tile_apply H.kt H.vt H.vs H.cu H.cw H.su H.sw H.ks H.ps _ _ _ _ _ _ _ _ _ H.col 0
    (fun d l => H.lo_apply d _ (by omega) l) (fun d l => H.lo_apply d _ (by omega) l) (fun d l => H.t0_apply d l) (fun d l => H.t1_apply d l) (fun d l => H.t2_apply d l) (fun d l => H.t3_apply d l) r d i hi]
  unfold HeadIn.row
  simp only [HeadIn.kt_apply, HeadIn.vt_apply]
  have e (j : Fin 640) : 0 + 128 + j.val - r.val = 640 + j.val - i.val := by omega
  simp only [e]

end

end Cert.Proof

end
-- ==== Proof.Attn.lean ====
/- The attention both programs compute, as functions of the arguments' entries. -/
module

public import proofs.«01_k».proof.Proof.TileRead

@[expose] public section

noncomputable section

namespace Cert.Proof

open Idealize.ShloMosaic

/-- Arrays indexed by batch, position, head, channel. -/
abbrev Arr4 := Fin 3 → Fin 640 → Fin 12 → Fin 96 → EReal

/-- The arguments' entries. -/
structure Args where
  q : Arr4
  k : Arr4
  ks : Fin 3 → Fin 12 → EReal
  v : Arr4
  vs : Fin 3 → Fin 12 → EReal
  p : Fin 769 → Fin 12 → Fin 96 → EReal
  ps : Fin 12 → EReal
  u : Fin 12 → Fin 96 → EReal
  w : Fin 12 → Fin 96 → EReal

namespace Args

variable (A : Args) (b : Fin 3) (n : Fin 12) (i : Fin 640)

/-- A query row plus each of the two biases. -/
def xu : Fin 96 → EReal := fun d => A.q b i n d + A.u n d
def xw : Fin 96 → EReal := fun d => A.q b i n d + A.w n d

/-- The position of key `j` seen from query `i`: `384 - (i - j)`, the difference clipped to ±384. -/
def pos (i j : Fin 640) : Fin 769 := ⟨min (640 + j.val - i.val - 256) 768, by omega⟩

/-- The context of a query at a channel. -/
def ctx (d : Fin 96) : EReal :=
  refRow ((Real.sqrt 96 : ℝ) : EReal) (fun j => ∑ x : Fin 96, rowCode (A.xu b n i) x * A.k b j n x)
    (fun j => ∑ x : Fin 96, rowCode (A.xw b n i) x * A.p (pos i j) n x) (rowScl (A.xu b n i)) (rowScl (A.xw b n i))
    (A.ks b n) (A.ps n) (A.vs b n) (fun j => A.v b j n d)

end Args

/-- A head's row of attention is the context, when the head's reads are the arguments' entries. -/
theorem row_eq (A : Args) (b : Fin 3) (n : Fin 12) (H : HeadIn Ideal)
    (hq : ∀ d i, H.q (ix4 0 0 d i) = A.q b i n d) (hu : ∀ d, H.u (ix3 0 d 0) = A.u n d) (hw : ∀ d, H.w (ix3 0 d 0) = A.w n d)
    (hk : ∀ d j, H.k (ix4 0 0 d j) = A.k b j n d) (hv : ∀ d j, H.v (ix4 0 0 d j) = A.v b j n d)
    (hp : ∀ d l, H.p (ix3 0 d l) = A.p l n d) (hks : H.ks = A.ks b n) (hvs : H.vs = A.vs b n) (hps : H.ps = A.ps n)
    (i : Fin 640) (d : Fin 96) : H.row i d = A.ctx b n i d := by
  unfold HeadIn.row HeadIn.cu HeadIn.cw HeadIn.su HeadIn.sw HeadIn.col Args.ctx
  simp only [codes_apply, scales_apply, biased_apply, hq, hu, hw, hk, hv, hp, hks, hvs, hps]
  exact kerRow_eq _ _ _ _ _ _ _ _

end Cert.Proof

end
-- ==== Proof.KerIn.lean ====
/- What each head of a grid step reads, as entries of the kernel's arguments. -/
module

public import proofs.«01_k».proof.Proof.Run
public import proofs.«01_k».proof.Proof.Attn
public import Idealize.ShloMosaic.Lib.Claim
public import Idealize.ShloMosaic.Lib.Pipeline.ValueKit

@[expose] public section

noncomputable section

namespace Cert.Proof

open Idealize.ShloMosaic Idealize.ShloMosaic.TcCoe Idealize.SL.Sem Cert.KernelIdeal Cert.KernelIdeal.Gen

variable (m : (ℓ : Loc nD τ sig) → Buf (Elt Ideal) ℓ) (c : Dev nD)

/-- The kernel's arguments' entries. -/
def kArgs : Args where
  q := fun b i n d => m ((c : Thread nD τ).loc main_arg0) (ix4 b i n d)
  k := fun b i n d => m ((c : Thread nD τ).loc main_arg1) (ix4 b i n d)
  ks := fun b n => m ((c : Thread nD τ).loc main_arg2) (ix2 b n)
  v := fun b i n d => m ((c : Thread nD τ).loc main_arg3) (ix4 b i n d)
  vs := fun b n => m ((c : Thread nD τ).loc main_arg4) (ix2 b n)
  p := fun l n d => m ((c : Thread nD τ).loc main_arg5) (ix3 l n d)
  ps := fun n => m ((c : Thread nD τ).loc main_arg6) (ix1 n)
  u := fun n d => m ((c : Thread nD τ).loc main_arg7) (ix2 n d)
  w := fun n d => m ((c : Thread nD τ).loc main_arg8) (ix2 n d)

theorem steps : cfg0.N = 9 := rfl

/-- The batch of a step, and a head's number. -/
def stepB (t : Fin cfg0.N) : Fin 3 := ⟨t.val / 3, by have h : t.val < 9 := t.isLt; omega⟩
def stepN (t : Fin cfg0.N) (h : Fin 4) : Fin 12 := ⟨4 * (t.val % 3) + h.val, by omega⟩

/-- The input windows' block numbers. -/
theorem idx0 (t : Fin cfg0.N) : win0_0.index t = ![0, 0] := (by decide +kernel : ∀ t : Fin grid0.N, win0_0.index t = ![0, 0]) t
theorem idx1 (t : Fin cfg0.N) : win0_1.index t = ![0, 0] := (by decide +kernel : ∀ t : Fin grid0.N, win0_1.index t = ![0, 0]) t
theorem idx2 (t : Fin cfg0.N) : win0_2.index t = ![0] := (by decide +kernel : ∀ t : Fin grid0.N, win0_2.index t = ![0]) t
theorem idx3 (t : Fin cfg0.N) : win0_3.index t = ![t.val / 3, t.val % 3, 0, 0] := (by decide +kernel : ∀ t : Fin grid0.N, win0_3.index t = ![t.val / 3, t.val % 3, 0, 0]) t
theorem idx4 (t : Fin cfg0.N) : win0_4.index t = ![t.val / 3, t.val % 3, 0, 0] := (by decide +kernel : ∀ t : Fin grid0.N, win0_4.index t = ![t.val / 3, t.val % 3, 0, 0]) t
theorem idx5 (t : Fin cfg0.N) : win0_5.index t = ![t.val / 3, t.val % 3, 0, 0] := (by decide +kernel : ∀ t : Fin grid0.N, win0_5.index t = ![t.val / 3, t.val % 3, 0, 0]) t
theorem idx6 (t : Fin cfg0.N) : win0_6.index t = ![t.val % 3, 0, 0] := (by decide +kernel : ∀ t : Fin grid0.N, win0_6.index t = ![t.val % 3, 0, 0]) t
theorem idx7 (t : Fin cfg0.N) : win0_7.index t = ![t.val % 3, 0, 0] := (by decide +kernel : ∀ t : Fin grid0.N, win0_7.index t = ![t.val % 3, 0, 0]) t
theorem idx8 (t : Fin cfg0.N) : win0_8.index t = ![t.val % 3, 0, 0] := (by decide +kernel : ∀ t : Fin grid0.N, win0_8.index t = ![t.val % 3, 0, 0]) t

/-- The input windows' blocks, as the arguments' entries. -/
theorem blk0 (t : Fin cfg0.N) (b : Fin 3) (n : Fin 12) : iblk m c 0 t (ix2 b n) = (kArgs m c).ks b n := by
  have e : (win0_0.blk t).view.emb (ix2 b n) = ix2 b n := by blk_ext [idx0 t]
  unfold iblk
  blk_simp
  rw [e, V_main_arg2]
  rfl

theorem blk1 (t : Fin cfg0.N) (b : Fin 3) (n : Fin 12) : iblk m c 1 t (ix2 b n) = (kArgs m c).vs b n := by
  have e : (win0_1.blk t).view.emb (ix2 b n) = ix2 b n := by blk_ext [idx1 t]
  unfold iblk
  blk_simp
  rw [e, V_main_arg4]
  rfl

theorem blk2 (t : Fin cfg0.N) (n : Fin 12) : iblk m c 2 t (ix1 n) = (kArgs m c).ps n := by
  have e : (win0_2.blk t).view.emb (ix1 n) = ix1 n := by blk_ext [idx2 t]
  unfold iblk
  blk_simp
  rw [e, V_main_arg6]
  rfl

theorem blk3 (t : Fin cfg0.N) (h : Fin 4) (d : Fin 96) (i : Fin 640) :
    iblk m c 3 t (ix4 0 h d i) = (kArgs m c).q (stepB t) i (stepN t h) d := by
  have e : (win0_3.blk t).view.emb (ix4 0 h d i) = ix4 (stepB t) (stepN t h) d i := by blk_ext [idx3 t, stepB, stepN]
  unfold iblk
  blk_simp
  rw [e]
  entry_read
  pointwise
  rfl

theorem blk4 (t : Fin cfg0.N) (h : Fin 4) (d : Fin 96) (i : Fin 640) :
    iblk m c 4 t (ix4 0 h d i) = (kArgs m c).k (stepB t) i (stepN t h) d := by
  have e : (win0_4.blk t).view.emb (ix4 0 h d i) = ix4 (stepB t) (stepN t h) d i := by blk_ext [idx4 t, stepB, stepN]
  unfold iblk
  blk_simp
  rw [e]
  entry_read
  pointwise
  rfl

theorem blk5 (t : Fin cfg0.N) (h : Fin 4) (d : Fin 96) (i : Fin 640) :
    iblk m c 5 t (ix4 0 h d i) = (kArgs m c).v (stepB t) i (stepN t h) d := by
  have e : (win0_5.blk t).view.emb (ix4 0 h d i) = ix4 (stepB t) (stepN t h) d i := by blk_ext [idx5 t, stepB, stepN]
  unfold iblk
  blk_simp
  rw [e]
  entry_read
  pointwise
  rfl

theorem blk6 (t : Fin cfg0.N) (h : Fin 4) (d : Fin 96) (l : Fin 769) :
    iblk m c 6 t (ix3 h d l) = (kArgs m c).p l (stepN t h) d := by
  have e : (win0_6.blk t).view.emb (ix3 h d l) = ix3 (stepN t h) d l := by blk_ext [idx6 t, stepN]
  unfold iblk
  blk_simp
  rw [e]
  entry_read
  pointwise
  rfl

theorem blk7 (t : Fin cfg0.N) (h : Fin 4) (d : Fin 96) :
    iblk m c 7 t (ix3 h d 0) = (kArgs m c).u (stepN t h) d := by
  have e : (win0_7.blk t).view.emb (ix3 h d 0) = ix3 (stepN t h) d 0 := by blk_ext [idx7 t, stepN]
  unfold iblk
  blk_simp
  rw [e]
  entry_read
  pointwise
  rfl

theorem blk8 (t : Fin cfg0.N) (h : Fin 4) (d : Fin 96) :
    iblk m c 8 t (ix3 h d 0) = (kArgs m c).w (stepN t h) d := by
  have e : (win0_8.blk t).view.emb (ix3 h d 0) = ix3 (stepN t h) d 0 := by blk_ext [idx8 t, stepN]
  unfold iblk
  blk_simp
  rw [e]
  entry_read
  pointwise
  rfl

theorem off1 (t : Fin cfg0.N) (h : Fin 4) : k0_off1 (grid0.coords t) (BitVec.ofNat 32 h.val) = ![t.val / 3, 4 * (t.val % 3) + h.val] :=
  (by decide +kernel : ∀ (t : Fin grid0.N) (h : Fin 4), k0_off1 (grid0.coords t) (BitVec.ofNat 32 h.val) = ![t.val / 3, 4 * (t.val % 3) + h.val]) t h
theorem off2 (t : Fin cfg0.N) (h : Fin 4) : k0_off2 (grid0.coords t) (BitVec.ofNat 32 h.val) = ![4 * (t.val % 3) + h.val] :=
  (by decide +kernel : ∀ (t : Fin grid0.N) (h : Fin 4), k0_off2 (grid0.coords t) (BitVec.ofNat 32 h.val) = ![4 * (t.val % 3) + h.val]) t h

/-- Head `h` of step `t`. -/
def head (t : Fin cfg0.N) (h : Fin 4) : HeadIn Ideal :=
  headOf (grid0.coords t) (iblk m c 0 t) (iblk m c 1 t) (iblk m c 2 t) (iblk m c 3 t) (iblk m c 4 t) (iblk m c 5 t) (iblk m c 6 t)
    (iblk m c 7 t) (iblk m c 8 t) h

theorem head_q (t : Fin cfg0.N) (h : Fin 4) (d : Fin 96) (i : Fin 640) :
    (head m c t h).q (ix4 0 0 d i) = (kArgs m c).q (stepB t) i (stepN t h) d := by
  rw [← blk3]
  show iblk m c 3 t _ = _
  congr 1
  funext a
  apply Fin.ext
  fin_cases a <;> simp [Rect.unit, Rect.emb_apply] <;> rfl

theorem head_ks (t : Fin cfg0.N) (h : Fin 4) : (head m c t h).ks = (kArgs m c).ks (stepB t) (stepN t h) := by
  rw [← blk0 m c t]
  show iblk m c 0 t _ = _
  congr 1
  funext a
  apply Fin.ext
  have e := congrFun (off1 t h) a
  fin_cases a <;> simp [Rect.unit, Shape.Idx.first, e, stepB, stepN]
  all_goals exact e

theorem head_vs (t : Fin cfg0.N) (h : Fin 4) : (head m c t h).vs = (kArgs m c).vs (stepB t) (stepN t h) := by
  rw [← blk1 m c t]
  show iblk m c 1 t _ = _
  congr 1
  funext a
  apply Fin.ext
  have e := congrFun (off1 t h) a
  fin_cases a <;> simp [Rect.unit, Shape.Idx.first, e, stepB, stepN]
  all_goals exact e

theorem head_ps (t : Fin cfg0.N) (h : Fin 4) : (head m c t h).ps = (kArgs m c).ps (stepN t h) := by
  rw [← blk2 m c t]
  show iblk m c 2 t _ = _
  congr 1
  funext a
  apply Fin.ext
  have e := congrFun (off2 t h) a
  fin_cases a <;> simp [Rect.unit, Shape.Idx.first, e, stepN]
  all_goals exact e

theorem head_k (t : Fin cfg0.N) (h : Fin 4) (d : Fin 96) (i : Fin 640) :
    (head m c t h).k (ix4 0 0 d i) = (kArgs m c).k (stepB t) i (stepN t h) d := by
  rw [← blk4]
  show iblk m c 4 t _ = _
  congr 1
  funext a
  apply Fin.ext
  fin_cases a <;> simp [Rect.unit, Rect.emb_apply] <;> rfl

theorem head_v (t : Fin cfg0.N) (h : Fin 4) (d : Fin 96) (i : Fin 640) :
    (head m c t h).v (ix4 0 0 d i) = (kArgs m c).v (stepB t) i (stepN t h) d := by
  rw [← blk5]
  show iblk m c 5 t _ = _
  congr 1
  funext a
  apply Fin.ext
  fin_cases a <;> simp [Rect.unit, Rect.emb_apply] <;> rfl

theorem head_u (t : Fin cfg0.N) (h : Fin 4) (d : Fin 96) : (head m c t h).u (ix3 0 d 0) = (kArgs m c).u (stepN t h) d := by
  rw [← blk7 m c t]
  show iblk m c 7 t _ = _
  congr 1
  funext a
  apply Fin.ext
  fin_cases a <;> simp [Rect.unit, Rect.emb_apply] <;> rfl

theorem head_w (t : Fin cfg0.N) (h : Fin 4) (d : Fin 96) : (head m c t h).w (ix3 0 d 0) = (kArgs m c).w (stepN t h) d := by
  rw [← blk8 m c t]
  show iblk m c 8 t _ = _
  congr 1
  funext a
  apply Fin.ext
  fin_cases a <;> simp [Rect.unit, Rect.emb_apply] <;> rfl

theorem head_p (t : Fin cfg0.N) (h : Fin 4) (d : Fin 96) (l : Fin 769) :
    (head m c t h).p (ix3 0 d l) = (kArgs m c).p l (stepN t h) d := by
  rw [← blk6 m c t]
  show iblk m c 6 t _ = _
  congr 1
  funext a
  apply Fin.ext
  fin_cases a <;> simp [Rect.unit, Rect.emb_apply] <;> rfl

theorem head_pl (t : Fin cfg0.N) (h : Fin 4) (d : Fin 96) (l : Fin 128) :
    (head m c t h).pl (ix3 0 d l) = (head m c t h).p (ix3 0 d ⟨641 + l.val, by omega⟩) := by
  show iblk m c 6 t _ = iblk m c 6 t _
  congr 1
  funext a
  apply Fin.ext
  fin_cases a <;> simp [Rect.unit, Rect.emb_apply] <;> rfl

end Cert.Proof

end
-- ==== Proof.KerOut.lean ====
/- The kernel's results after its nine steps, as functions of its arguments. -/
module

public import proofs.«01_k».proof.Proof.KerIn

@[expose] public section

noncomputable section

namespace Cert.Proof

open Idealize.ShloMosaic Idealize.ShloMosaic.TcCoe Idealize.SL.Sem Cert.KernelIdeal Cert.KernelIdeal.Gen

variable (m : (ℓ : Loc nD τ sig) → Buf (Elt Ideal) ℓ) (c : Dev nD)

theorem head_row (t : Fin cfg0.N) (h : Fin 4) (i : Fin 640) (d : Fin 96) :
    (head m c t h).row i d = (kArgs m c).ctx (stepB t) (stepN t h) i d :=
  row_eq (kArgs m c) (stepB t) (stepN t h) (head m c t h) (head_q m c t h) (head_u m c t h) (head_w m c t h)
    (head_k m c t h) (head_v m c t h) (head_p m c t h) (head_ks m c t h) (head_vs m c t h) (head_ps m c t h) i d

theorem head_cu (t : Fin cfg0.N) (h : Fin 4) (d : Fin 96) (i : Fin 640) :
    (head m c t h).cuOut (ix4 0 0 d i) = rowCode ((kArgs m c).xu (stepB t) (stepN t h) i) d := by
  have e : (head m c t h).cuOut (ix4 0 0 d i) = (head m c t h).cu (ix2 d i) := by
    unfold HeadIn.cuOut
    generalize (head m c t h).cu = y
    pointwise
  rw [e]
  unfold HeadIn.cu Args.xu
  simp only [codes_apply, biased_apply, head_q, head_u]

theorem head_cw (t : Fin cfg0.N) (h : Fin 4) (d : Fin 96) (i : Fin 640) :
    (head m c t h).cwOut (ix4 0 0 d i) = rowCode ((kArgs m c).xw (stepB t) (stepN t h) i) d := by
  have e : (head m c t h).cwOut (ix4 0 0 d i) = (head m c t h).cw (ix2 d i) := by
    unfold HeadIn.cwOut
    generalize (head m c t h).cw = y
    pointwise
  rw [e]
  unfold HeadIn.cw Args.xw
  simp only [codes_apply, biased_apply, head_q, head_w]

theorem head_su (t : Fin cfg0.N) (h : Fin 4) (i : Fin 640) :
    (head m c t h).suOut (ix4 0 0 0 i) = rowScl ((kArgs m c).xu (stepB t) (stepN t h) i) := by
  have e : (head m c t h).suOut (ix4 0 0 0 i) = (head m c t h).su (ix2 0 i) := by
    unfold HeadIn.suOut
    generalize (head m c t h).su = y
    pointwise
  rw [e]
  unfold HeadIn.su Args.xu
  simp only [scales_apply, biased_apply, head_q, head_u]

theorem head_sw (t : Fin cfg0.N) (h : Fin 4) (i : Fin 640) :
    (head m c t h).swOut (ix4 0 0 0 i) = rowScl ((kArgs m c).xw (stepB t) (stepN t h) i) := by
  have e : (head m c t h).swOut (ix4 0 0 0 i) = (head m c t h).sw (ix2 0 i) := by
    unfold HeadIn.swOut
    generalize (head m c t h).sw = y
    pointwise
  rw [e]
  unfold HeadIn.sw Args.xw
  simp only [scales_apply, biased_apply, head_q, head_w]

/-- The results: context, codes and scales. -/
def ctxOut (A : Args) : S3x640x1152.Idx → EReal := fun y =>
  A.ctx ⟨(y 0).val, (y 0).isLt⟩ ⟨(y 2).val / 96, by have h : (y 2).val < 1152 := (y 2).isLt; omega⟩ ⟨(y 1).val, (y 1).isLt⟩
    ⟨(y 2).val % 96, by omega⟩
def codesOut (x : Fin 3 → Fin 12 → Fin 640 → Fin 96 → EReal) : S3x12x96x640.Idx → EReal := fun y =>
  rowCode (x ⟨(y 0).val, (y 0).isLt⟩ ⟨(y 1).val, (y 1).isLt⟩ ⟨(y 3).val, (y 3).isLt⟩) ⟨(y 2).val, (y 2).isLt⟩
def sclsOut (x : Fin 3 → Fin 12 → Fin 640 → Fin 96 → EReal) : S3x3x4x640.Idx → EReal := fun y =>
  rowScl (x ⟨(y 0).val, (y 0).isLt⟩ ⟨4 * (y 1).val + (y 2).val, by have h : (y 1).val < 3 := (y 1).isLt; have h' : (y 2).val < 4 := (y 2).isLt; omega⟩
    ⟨(y 3).val, (y 3).isLt⟩)

/-- The same over a step's blocks. -/
def ctxBlk (t : Fin cfg0.N) : S1x640x384.Idx → EReal := fun y =>
  (kArgs m c).ctx (stepB t) (stepN t ⟨(y 2).val / 96, by have h : (y 2).val < 384 := (y 2).isLt; omega⟩) ⟨(y 1).val, (y 1).isLt⟩
    ⟨(y 2).val % 96, by omega⟩
def codesBlk (x : Fin 3 → Fin 12 → Fin 640 → Fin 96 → EReal) (t : Fin cfg0.N) : S1x4x96x640.Idx → EReal := fun y =>
  rowCode (x (stepB t) (stepN t ⟨(y 1).val, (y 1).isLt⟩) ⟨(y 3).val, (y 3).isLt⟩) ⟨(y 2).val, (y 2).isLt⟩
def sclsBlk (x : Fin 3 → Fin 12 → Fin 640 → Fin 96 → EReal) (t : Fin cfg0.N) : S1x1x4x640.Idx → EReal := fun y =>
  rowScl (x (stepB t) (stepN t ⟨(y 2).val, (y 2).isLt⟩) ⟨(y 3).val, (y 3).isLt⟩)

theorem ctx_piece (t : Fin cfg0.N) (h : Fin 4) (o : Nat) (inb : ∀ a, (![0, o, 96 * h.val] : Fin 3 → Nat) a + (![1, 128, 96] : Fin 3 → Nat) a ≤ S1x640x384.size a)
    (O : S1x128x96.Idx → EReal) (hO : ∀ (r : Fin 128) (d : Fin 96) (i : Fin 640), i.val = o + r.val → O (ix3 0 r d) = (head m c t h).row i d)
    (x : S1x128x96.Idx) : O x = ctxBlk m c t ((Rect.unit (s := S1x640x384) ![0, o, 96 * h.val] ![1, 128, 96] inb).emb x) := by
  obtain ⟨a, r, d, rfl⟩ : ∃ (a : Fin 1) (r : Fin 128) (d : Fin 96), x = ix3 a r d := ⟨x 0, x 1, x 2, eq_ix3 x⟩
  obtain rfl : a = 0 := Subsingleton.elim _ _
  have ho : o + 128 ≤ 640 := inb 1
  rw [hO r d ⟨o + r.val, by omega⟩ rfl, head_row]
  unfold ctxBlk
  congr 1
  · congr 1
    exact Fin.ext (show h.val = (96 * h.val + 1 * d.val) / 96 by omega)
  · exact Fin.ext (show o + r.val = o + 1 * r.val by omega)
  · exact Fin.ext (show d.val = (96 * h.val + 1 * d.val) % 96 by omega)

theorem codes_piece (x : Fin 3 → Fin 12 → Fin 640 → Fin 96 → EReal) (t : Fin cfg0.N) (h : Fin 4) (inb : ∀ a, (![0, h.val, 0, 0] : Fin 4 → Nat) a + (![1, 1, 96, 640] : Fin 4 → Nat) a ≤ S1x4x96x640.size a)
    (O : S1x1x96x640.Idx → EReal) (hO : ∀ (d : Fin 96) (i : Fin 640), O (ix4 0 0 d i) = rowCode (x (stepB t) (stepN t h) i) d)
    (y : S1x1x96x640.Idx) : O y = codesBlk x t ((Rect.unit (s := S1x4x96x640) ![0, h.val, 0, 0] ![1, 1, 96, 640] inb).emb y) := by
  obtain ⟨a, b, d, i, rfl⟩ : ∃ (a : Fin 1) (b : Fin 1) (d : Fin 96) (i : Fin 640), y = ix4 a b d i := ⟨y 0, y 1, y 2, y 3, eq_ix4 y⟩
  obtain rfl : a = 0 := Subsingleton.elim _ _
  obtain rfl : b = 0 := Subsingleton.elim _ _
  rw [hO d i]
  unfold codesBlk
  congr 1
  · congr 1
    exact Fin.ext (show i.val = 0 + 1 * i.val by omega)
  · exact Fin.ext (show d.val = 0 + 1 * d.val by omega)

theorem scls_piece (x : Fin 3 → Fin 12 → Fin 640 → Fin 96 → EReal) (t : Fin cfg0.N) (h : Fin 4) (inb : ∀ a, (![0, 0, h.val, 0] : Fin 4 → Nat) a + (![1, 1, 1, 640] : Fin 4 → Nat) a ≤ S1x1x4x640.size a)
    (O : S1x1x1x640.Idx → EReal) (hO : ∀ (i : Fin 640), O (ix4 0 0 0 i) = rowScl (x (stepB t) (stepN t h) i))
    (y : S1x1x1x640.Idx) : O y = sclsBlk x t ((Rect.unit (s := S1x1x4x640) ![0, 0, h.val, 0] ![1, 1, 1, 640] inb).emb y) := by
  obtain ⟨a, b, d, i, rfl⟩ : ∃ (a : Fin 1) (b : Fin 1) (d : Fin 1) (i : Fin 640), y = ix4 a b d i := ⟨y 0, y 1, y 2, y 3, eq_ix4 y⟩
  obtain rfl : a = 0 := Subsingleton.elim _ _
  obtain rfl : b = 0 := Subsingleton.elim _ _
  obtain rfl : d = 0 := Subsingleton.elim _ _
  rw [hO i]
  unfold sclsBlk
  congr 2
  · exact Fin.ext (show i.val = 0 + 1 * i.val by omega)

theorem block9 (t : Fin cfg0.N) : out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) = ctxBlk m c t := by
  funext y
  unfold out0_A_9
  refine View.read_writes_apply_of_pieces _ _ (ctxBlk m c t) _ ?_ y (cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) y)
  rw [run_pieces9]
  simp only [List.forall_mem_cons, List.forall_mem_nil]
  exact ⟨ctx_piece m c t 3 512 _ _ ((head m c t 3).o4_apply (head_pl m c t 3)),
    ctx_piece m c t 3 384 _ _ ((head m c t 3).o3_apply (head_pl m c t 3)),
    ctx_piece m c t 3 256 _ _ ((head m c t 3).o2_apply (head_pl m c t 3)),
    ctx_piece m c t 3 128 _ _ ((head m c t 3).o1_apply (head_pl m c t 3)),
    ctx_piece m c t 3 0 _ _ ((head m c t 3).o0_apply (head_pl m c t 3)),
    ctx_piece m c t 2 512 _ _ ((head m c t 2).o4_apply (head_pl m c t 2)),
    ctx_piece m c t 2 384 _ _ ((head m c t 2).o3_apply (head_pl m c t 2)),
    ctx_piece m c t 2 256 _ _ ((head m c t 2).o2_apply (head_pl m c t 2)),
    ctx_piece m c t 2 128 _ _ ((head m c t 2).o1_apply (head_pl m c t 2)),
    ctx_piece m c t 2 0 _ _ ((head m c t 2).o0_apply (head_pl m c t 2)),
    ctx_piece m c t 1 512 _ _ ((head m c t 1).o4_apply (head_pl m c t 1)),
    ctx_piece m c t 1 384 _ _ ((head m c t 1).o3_apply (head_pl m c t 1)),
    ctx_piece m c t 1 256 _ _ ((head m c t 1).o2_apply (head_pl m c t 1)),
    ctx_piece m c t 1 128 _ _ ((head m c t 1).o1_apply (head_pl m c t 1)),
    ctx_piece m c t 1 0 _ _ ((head m c t 1).o0_apply (head_pl m c t 1)),
    ctx_piece m c t 0 512 _ _ ((head m c t 0).o4_apply (head_pl m c t 0)),
    ctx_piece m c t 0 384 _ _ ((head m c t 0).o3_apply (head_pl m c t 0)),
    ctx_piece m c t 0 256 _ _ ((head m c t 0).o2_apply (head_pl m c t 0)),
    ctx_piece m c t 0 128 _ _ ((head m c t 0).o1_apply (head_pl m c t 0)),
    ctx_piece m c t 0 0 _ _ ((head m c t 0).o0_apply (head_pl m c t 0)),
    fun _ h => absurd h List.not_mem_nil⟩

theorem block10 (t : Fin cfg0.N) : out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) = codesBlk (kArgs m c).xu t := by
  funext y
  unfold out0_A_10
  refine View.read_writes_apply_of_pieces _ _ (codesBlk (kArgs m c).xu t) _ ?_ y (cover0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) y)
  rw [run_pieces10]
  simp only [List.forall_mem_cons, List.forall_mem_nil]
  exact ⟨codes_piece (kArgs m c).xu t 3 _ _ (head_cu m c t 3),
    codes_piece (kArgs m c).xu t 2 _ _ (head_cu m c t 2),
    codes_piece (kArgs m c).xu t 1 _ _ (head_cu m c t 1),
    codes_piece (kArgs m c).xu t 0 _ _ (head_cu m c t 0),
    fun _ h => absurd h List.not_mem_nil⟩

theorem block11 (t : Fin cfg0.N) : out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) = sclsBlk (kArgs m c).xu t := by
  funext y
  unfold out0_A_11
  refine View.read_writes_apply_of_pieces _ _ (sclsBlk (kArgs m c).xu t) _ ?_ y (cover0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) y)
  rw [run_pieces11]
  simp only [List.forall_mem_cons, List.forall_mem_nil]
  exact ⟨scls_piece (kArgs m c).xu t 3 _ _ (head_su m c t 3),
    scls_piece (kArgs m c).xu t 2 _ _ (head_su m c t 2),
    scls_piece (kArgs m c).xu t 1 _ _ (head_su m c t 1),
    scls_piece (kArgs m c).xu t 0 _ _ (head_su m c t 0),
    fun _ h => absurd h List.not_mem_nil⟩

theorem block12 (t : Fin cfg0.N) : out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) = codesBlk (kArgs m c).xw t := by
  funext y
  unfold out0_A_12
  refine View.read_writes_apply_of_pieces _ _ (codesBlk (kArgs m c).xw t) _ ?_ y (cover0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) y)
  rw [run_pieces12]
  simp only [List.forall_mem_cons, List.forall_mem_nil]
  exact ⟨codes_piece (kArgs m c).xw t 3 _ _ (head_cw m c t 3),
    codes_piece (kArgs m c).xw t 2 _ _ (head_cw m c t 2),
    codes_piece (kArgs m c).xw t 1 _ _ (head_cw m c t 1),
    codes_piece (kArgs m c).xw t 0 _ _ (head_cw m c t 0),
    fun _ h => absurd h List.not_mem_nil⟩

theorem block13 (t : Fin cfg0.N) : out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) = sclsBlk (kArgs m c).xw t := by
  funext y
  unfold out0_A_13
  refine View.read_writes_apply_of_pieces _ _ (sclsBlk (kArgs m c).xw t) _ ?_ y (cover0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) y)
  rw [run_pieces13]
  simp only [List.forall_mem_cons, List.forall_mem_nil]
  exact ⟨scls_piece (kArgs m c).xw t 3 _ _ (head_sw m c t 3),
    scls_piece (kArgs m c).xw t 2 _ _ (head_sw m c t 2),
    scls_piece (kArgs m c).xw t 1 _ _ (head_sw m c t 1),
    scls_piece (kArgs m c).xw t 0 _ _ (head_sw m c t 0),
    fun _ h => absurd h List.not_mem_nil⟩

/-- The output windows' block numbers. -/
theorem idx9 (t : Fin cfg0.N) : win0_9.index t = ![t.val / 3, 0, t.val % 3] := (by decide +kernel : ∀ t : Fin grid0.N, win0_9.index t = ![t.val / 3, 0, t.val % 3]) t
theorem idx10 (t : Fin cfg0.N) : win0_10.index t = ![t.val / 3, t.val % 3, 0, 0] := (by decide +kernel : ∀ t : Fin grid0.N, win0_10.index t = ![t.val / 3, t.val % 3, 0, 0]) t
theorem idx11 (t : Fin cfg0.N) : win0_11.index t = ![t.val / 3, t.val % 3, 0, 0] := (by decide +kernel : ∀ t : Fin grid0.N, win0_11.index t = ![t.val / 3, t.val % 3, 0, 0]) t
theorem idx12 (t : Fin cfg0.N) : win0_12.index t = ![t.val / 3, t.val % 3, 0, 0] := (by decide +kernel : ∀ t : Fin grid0.N, win0_12.index t = ![t.val / 3, t.val % 3, 0, 0]) t
theorem idx13 (t : Fin cfg0.N) : win0_13.index t = ![t.val / 3, t.val % 3, 0, 0] := (by decide +kernel : ∀ t : Fin grid0.N, win0_13.index t = ![t.val / 3, t.val % 3, 0, 0]) t

/-- A step's block of codes is the result's part that the step writes. -/
theorem codes_entry (x : Fin 3 → Fin 12 → Fin 640 → Fin 96 → EReal) (t : Fin cfg0.N) (h : Fin 4) (d : Fin 96) (i : Fin 640) :
    codesBlk x t (ix4 0 h d i) = codesOut x (ix4 (stepB t) (stepN t h) d i) := by
  rfl

theorem codes_emb10 (x : Fin 3 → Fin 12 → Fin 640 → Fin 96 → EReal) (t : Fin cfg0.N) (h : Fin 4) (d : Fin 96) (i : Fin 640) :
    codesBlk x t (ix4 0 h d i) = codesOut x ((win0_10.blk t).view.emb (ix4 0 h d i)) :=
  (codes_entry x t h d i).trans (congrArg (codesOut x) (show ix4 (stepB t) (stepN t h) d i = (win0_10.blk t).view.emb (ix4 0 h d i) by
    symm; blk_ext [idx10 t, stepB, stepN]))

theorem codes_emb12 (x : Fin 3 → Fin 12 → Fin 640 → Fin 96 → EReal) (t : Fin cfg0.N) (h : Fin 4) (d : Fin 96) (i : Fin 640) :
    codesBlk x t (ix4 0 h d i) = codesOut x ((win0_12.blk t).view.emb (ix4 0 h d i)) :=
  (codes_entry x t h d i).trans (congrArg (codesOut x) (show ix4 (stepB t) (stepN t h) d i = (win0_12.blk t).view.emb (ix4 0 h d i) by
    symm; blk_ext [idx12 t, stepB, stepN]))

/-- The same of the scales. -/
theorem scls_emb11 (x : Fin 3 → Fin 12 → Fin 640 → Fin 96 → EReal) (t : Fin cfg0.N) (h : Fin 4) (i : Fin 640) :
    sclsBlk x t (ix4 0 0 h i) = sclsOut x ((win0_11.blk t).view.emb (ix4 0 0 h i)) :=
  (show sclsBlk x t (ix4 0 0 h i) = sclsOut x (ix4 (stepB t) (⟨t.val % 3, by omega⟩ : Fin 3) h i) from rfl).trans
    (congrArg (sclsOut x) (show ix4 (stepB t) (⟨t.val % 3, by omega⟩ : Fin 3) h i = (win0_11.blk t).view.emb (ix4 0 0 h i) by
      symm; blk_ext [idx11 t, stepB]))

theorem scls_emb13 (x : Fin 3 → Fin 12 → Fin 640 → Fin 96 → EReal) (t : Fin cfg0.N) (h : Fin 4) (i : Fin 640) :
    sclsBlk x t (ix4 0 0 h i) = sclsOut x ((win0_13.blk t).view.emb (ix4 0 0 h i)) :=
  (show sclsBlk x t (ix4 0 0 h i) = sclsOut x (ix4 (stepB t) (⟨t.val % 3, by omega⟩ : Fin 3) h i) from rfl).trans
    (congrArg (sclsOut x) (show ix4 (stepB t) (⟨t.val % 3, by omega⟩ : Fin 3) h i = (win0_13.blk t).view.emb (ix4 0 0 h i) by
      symm; blk_ext [idx13 t, stepB]))

/-- Result 0 after the run. -/
theorem kernel_out9 : (dats m 0 c).arrAt 9 cfg0.N = ctxOut (kArgs m c) := by
  refine (dats m 0 c).arrAt_eq_of_covers 9 _ (by decide +kernel) fun t hf y => ?_
  blk_simp
  rw [after0_9]
  unfold outsAt0
  dsimp only
  rw [block9]
  obtain ⟨a, r, d, rfl⟩ : ∃ (a : Fin 1) (r : Fin 640) (d : Fin 384), y = ix3 a r d := ⟨y 0, y 1, y 2, eq_ix3 y⟩
  obtain rfl : a = 0 := Subsingleton.elim _ _
  have e : (win0_9.blk t).view.emb (ix3 0 r d) = ix3 (stepB t) r (⟨384 * (t.val % 3) + d.val, by omega⟩ : Fin 1152) := by blk_ext [idx9 t, stepB]
  refine Eq.trans ?_ (congrArg (ctxOut (kArgs m c)) e.symm)
  unfold ctxBlk ctxOut
  congr 1
  · exact Fin.ext (show 4 * (t.val % 3) + d.val / 96 = (384 * (t.val % 3) + d.val) / 96 by omega)
  · exact Fin.ext (show d.val % 96 = (384 * (t.val % 3) + d.val) % 96 by omega)

/-- Result 1 after the run. -/
theorem kernel_out10 : (dats m 0 c).arrAt 10 cfg0.N = codesOut (kArgs m c).xu := by
  refine (dats m 0 c).arrAt_eq_of_covers 10 _ (by decide +kernel) fun t hf y => ?_
  blk_simp
  rw [after0_10]
  unfold outsAt0
  dsimp only
  rw [block10]
  obtain ⟨a, h, d, i, rfl⟩ : ∃ (a : Fin 1) (h : Fin 4) (d : Fin 96) (i : Fin 640), y = ix4 a h d i := ⟨y 0, y 1, y 2, y 3, eq_ix4 y⟩
  obtain rfl : a = 0 := Subsingleton.elim _ _
  exact codes_emb10 (kArgs m c).xu t h d i

/-- Result 2 after the run. -/
theorem kernel_out11 : (dats m 0 c).arrAt 11 cfg0.N = sclsOut (kArgs m c).xu := by
  refine (dats m 0 c).arrAt_eq_of_covers 11 _ (by decide +kernel) fun t hf y => ?_
  blk_simp
  rw [after0_11]
  unfold outsAt0
  dsimp only
  rw [block11]
  obtain ⟨a, b, h, i, rfl⟩ : ∃ (a : Fin 1) (b : Fin 1) (h : Fin 4) (i : Fin 640), y = ix4 a b h i := ⟨y 0, y 1, y 2, y 3, eq_ix4 y⟩
  obtain rfl : a = 0 := Subsingleton.elim _ _
  obtain rfl : b = 0 := Subsingleton.elim _ _
  exact scls_emb11 (kArgs m c).xu t h i

/-- Result 3 after the run. -/
theorem kernel_out12 : (dats m 0 c).arrAt 12 cfg0.N = codesOut (kArgs m c).xw := by
  refine (dats m 0 c).arrAt_eq_of_covers 12 _ (by decide +kernel) fun t hf y => ?_
  blk_simp
  rw [after0_12]
  unfold outsAt0
  dsimp only
  rw [block12]
  obtain ⟨a, h, d, i, rfl⟩ : ∃ (a : Fin 1) (h : Fin 4) (d : Fin 96) (i : Fin 640), y = ix4 a h d i := ⟨y 0, y 1, y 2, y 3, eq_ix4 y⟩
  obtain rfl : a = 0 := Subsingleton.elim _ _
  exact codes_emb12 (kArgs m c).xw t h d i

/-- Result 4 after the run. -/
theorem kernel_out13 : (dats m 0 c).arrAt 13 cfg0.N = sclsOut (kArgs m c).xw := by
  refine (dats m 0 c).arrAt_eq_of_covers 13 _ (by decide +kernel) fun t hf y => ?_
  blk_simp
  rw [after0_13]
  unfold outsAt0
  dsimp only
  rw [block13]
  obtain ⟨a, b, h, i, rfl⟩ : ∃ (a : Fin 1) (b : Fin 1) (h : Fin 4) (i : Fin 640), y = ix4 a b h i := ⟨y 0, y 1, y 2, y 3, eq_ix4 y⟩
  obtain rfl : a = 0 := Subsingleton.elim _ _
  obtain rfl : b = 0 := Subsingleton.elim _ _
  exact scls_emb13 (kArgs m c).xw t h i

end Cert.Proof

end
-- ==== Proof.RefPos.lean ====
/- The positions the reference gathers, as words and as numbers, and its gather read at an index. -/
module

public import proofs.«01_k».proof.Proof.Gen.ReferenceIdeal.Read
public import Idealize.ShloMosaic.Lib.Pointwise

@[expose] public section

noncomputable section

namespace Cert.Proof.Ref

open Idealize.ShloMosaic Idealize.ShloMosaic.TcCoe Idealize.SL.Sem Cert.ReferenceIdeal Cert.ReferenceIdeal.Gen Cert.ReferenceIdeal.Read

variable (b : Fin 3) (n : Fin 12) (i j : Fin 640)

/-- The relative position of key `j` seen from query `i`. -/
def rpos (i j : Fin 640) : Fin 769 := ⟨min (640 + j.val - i.val - 256) 768, by omega⟩

/-- The distance clipped to the range, and counted from its end, as the reference's integer words compute it. -/
theorem word_pos (i j : Fin 640) :
    IntOp.subi 384#32 (IntOp.minsi 384#32 (IntOp.maxsi (BitVec.ofInt 32 (-384)) (IntOp.subi (BitVec.ofNat 32 i.val) (BitVec.ofNat 32 j.val))))
      = BitVec.ofNat 32 (rpos i j).val := by
  have hi := i.isLt
  have hj := j.isLt
  have hi2 : (BitVec.ofNat 32 i.val).toInt = i.val := by rw [BitVec.toInt_ofNat']; simp only [Int.bmod_def]; omega
  have hj2 : (BitVec.ofNat 32 j.val).toInt = j.val := by rw [BitVec.toInt_ofNat']; simp only [Int.bmod_def]; omega
  have hs : (BitVec.ofNat 32 i.val - BitVec.ofNat 32 j.val).toInt = (i.val : Int) - j.val := by
    rw [BitVec.toInt_sub, hi2, hj2]; simp only [Int.bmod_def]; omega
  unfold IntOp.subi IntOp.minsi IntOp.maxsi rpos
  apply BitVec.eq_of_toInt_eq
  have h1 : (384#32).toInt = 384 := by decide
  have h2 : (BitVec.ofInt 32 (-384)).toInt = -384 := by decide
  have h3 : (BitVec.ofNat 32 (min (640 + j.val - i.val - 256) 768)).toInt = (min (640 + j.val - i.val - 256) 768 : Nat) := by
    rw [BitVec.toInt_ofNat']; simp only [Int.bmod_def]; omega
  rw [h3, BitVec.toInt_sub]
  simp only [BitVec.slt_iff_toInt_lt]
  split_ifs <;> simp only [h1, h2, hs, Int.bmod_def] at * <;> omega

theorem word_at : val_main_v59 (F := Ideal) (ix4 b n i j) = BitVec.ofNat 32 (rpos i j).val := by
  rw [← word_pos]
  unfold val_main_v59 val_main_v58 val_main_v57 val_main_c_9 val_main_v56 val_main_call1_v4 val_main_call1_v3 val_main_c_8 val_main_call1_v2
    val_main_call1_v1 val_main_call1_v0 val_main_c val_main_v55 val_main_v54 val_main_v53 val_main_v52 val_main_v51 val_main_v50
  pointwise
  rfl

theorem index_at : val_main_call2_v5 (F := Ideal) (ix5 b n i j 0) = BitVec.ofNat 32 (rpos i j).val := by
  unfold val_main_call2_v5 val_main_call2_v4 val_main_call2_v3 val_main_call2_v2 val_main_call2_c_0 val_main_call2_v1 val_main_call2_v0 val_main_call2_c
  generalize hy : val_main_v59 (F := Ideal) = y
  pointwise
  subst hy
  rw [word_at]
  have hr : (rpos i j).val ≤ 768 := by have := (rpos i j).isLt; omega
  have h3 : (BitVec.ofNat 32 (rpos i j).val).toInt = ((rpos i j).val : Int) := by
    rw [BitVec.toInt_ofNat']; simp only [Int.bmod_def]; omega
  have hc : IntOp.cmpi .slt (BitVec.ofNat 32 (rpos i j).val) 0#32 = 0#1 := by
    have h : (BitVec.ofNat 32 (rpos i j).val).slt 0#32 = false := by
      rw [Bool.eq_false_iff, ne_eq, BitVec.slt_iff_toInt_lt, h3]
      simp
    unfold IntOp.cmpi
    simp only [h]
    rfl
  rw [hc]
  rfl

section Gather
variable {α : Type} {B H R J L w : Nat}

/-- A gather along the last axis, the others being batching axes. -/
abbrev lastDims (B H R J L : Nat)
    (wf : GatherDims.WF ⟨4, ![B, H, R, L]⟩ ⟨5, ![B, H, R, J, 1]⟩ ⟨4, ![B, H, R, J]⟩ [] [3] [0, 1, 2] [3] [0, 1, 2] 4 ![1, 1, 1, 1]) :
    GatherDims ⟨4, ![B, H, R, L]⟩ ⟨5, ![B, H, R, J, 1]⟩ ⟨4, ![B, H, R, J]⟩ where
  offsetDims := []
  collapsedSliceDims := [3]
  operandBatchingDims := [0, 1, 2]
  startIndicesBatchingDims := [0, 1, 2]
  startIndexMap := [3]
  indexVectorDim := 4
  sliceSizes := ![1, 1, 1, 1]
  wf := wf

theorem gather_last (wf) (x : (⟨4, ![B, H, R, L]⟩ : Shape).Idx → α) (idx : IVec ⟨5, ![B, H, R, J, 1]⟩ w)
    (b : Fin B) (h : Fin H) (r : Fin R) (j : Fin J) (l : Fin L) (hl : min (idx (ix5 b h r j 0)).toInt.toNat (L - 1) = l.val) :
    Host.gather (lastDims B H R J L wf) x idx (ix4 b h r j) = x (ix4 b h r l) := by
  unfold Host.gather
  congr 1
  funext a
  refine Fin.ext ?_
  show (lastDims B H R J L wf).start (ix4 b h r j) idx a + (lastDims B H R J L wf).batchCoord (ix4 b h r j) a
      + (lastDims B H R J L wf).offCoord (ix4 b h r j) a = _
  have h4 : a = 3 ∨ a = 0 ∨ a = 1 ∨ a = 2 := by
    match a with
    | ⟨0, _⟩ => exact Or.inr (Or.inl rfl)
    | ⟨1, _⟩ => exact Or.inr (Or.inr (Or.inl rfl))
    | ⟨2, _⟩ => exact Or.inr (Or.inr (Or.inr rfl))
    | ⟨3, _⟩ => exact Or.inl rfl
  rcases h4 with rfl | rfl | rfl | rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (3 : Fin 4) ∈ (lastDims B H R J L wf).startIndexMap from List.mem_singleton.mpr rfl)]
    have hsi : (lastDims B H R J L wf).siIdx (ix4 b h r j) ⟨List.idxOf (3 : Fin 4) (lastDims B H R J L wf).startIndexMap,
        List.idxOf_lt_length_iff.2 (List.mem_singleton.mpr rfl)⟩ = ix5 b h r j 0 := by
      funext x; refine Fin.ext ?_
      match x with
      | ⟨0, _⟩ => rfl
      | ⟨1, _⟩ => rfl
      | ⟨2, _⟩ => rfl
      | ⟨3, _⟩ => rfl
      | ⟨4, _⟩ => rfl
    rw [hsi]
    exact hl
  all_goals
    rw [GatherDims.start_batching _ _ _ _ (by simp),
      GatherDims.offCoord_eq_zero _ _ _ (fun h => ((GatherDims.mem_sKept _ _).mp h).2 (by simp))]
    simp only [Nat.zero_add, Nat.add_zero]
    unfold GatherDims.batchCoord
    rw [dif_pos (by simp)]
    rfl

end Gather

/-- The gather takes each query's product at the key's position. -/
theorem v60_at (r1 : (⟨S2x3x640x12x96, .f32⟩ : BufTy).Contents (Elt Ideal)) (r4 : (⟨S769x12x96, .f32⟩ : BufTy).Contents (Elt Ideal)) :
    val_main_v60 (F := Ideal) r1 r4 (ix4 b n i j) = val_main_v49 (F := Ideal) r1 r4 (ix4 b n i (rpos i j)) := by
  unfold val_main_v60
  refine gather_last _ _ _ b n i j (rpos i j) ?_
  rw [index_at]
  have hr : (rpos i j).val ≤ 768 := by have := (rpos i j).isLt; omega
  have h3 : (BitVec.ofNat 32 (rpos i j).val).toInt = ((rpos i j).val : Int) := by
    rw [BitVec.toInt_ofNat']; simp only [Int.bmod_def]; omega
  rw [h3]
  omega

end Cert.Proof.Ref

end
-- ==== Proof.RefPost.lean ====
/- The reference after its casts, read at an index over the extended reals: products, positions, softmax, context. -/
module

public import proofs.«01_k».proof.Proof.Gen.ReferenceIdeal.Read
public import proofs.«01_k».proof.Proof.HeadRead
public import proofs.«01_k».proof.Proof.RefPos

@[expose] public section

noncomputable section

namespace Cert.Proof.Ref

open Idealize.ShloMosaic Idealize.ShloMosaic.TcCoe Idealize.SL.Sem Cert.Proof Cert.ReferenceIdeal Cert.ReferenceIdeal.Gen Cert.ReferenceIdeal.Read

variable (x2 x4 : (⟨S3x12, .f32⟩ : BufTy).Contents (Elt Ideal)) (x6 : (⟨S12, .f32⟩ : BufTy).Contents (Elt Ideal))
  (r0 : (⟨S2x3x640x12x96, .fp8e4m3⟩ : BufTy).Contents (Elt Ideal)) (r1 : (⟨S2x3x640x12x96, .f32⟩ : BufTy).Contents (Elt Ideal))
  (r2 : (⟨S3x640x12x96, .f32⟩ : BufTy).Contents (Elt Ideal)) (r3 : (⟨S3x640x12x96, .bf16⟩ : BufTy).Contents (Elt Ideal))
  (r4 : (⟨S769x12x96, .f32⟩ : BufTy).Contents (Elt Ideal)) (e0 : (⟨S2x3x640x12, .f32⟩ : BufTy).Contents (Elt Ideal))
  (b : Fin 3) (n : Fin 12) (i j : Fin 640) (d : Fin 96)

/-- Each half of the codes, of the widened codes and of the scales. -/
theorem v36_at : val_main_v36 (F := Ideal) r0 (ix4 b i n d) = r0 (ix5 0 b i n d) := by
  unfold val_main_v36 val_main_v35
  pointwise
theorem v38_at : val_main_v38 (F := Ideal) r0 (ix4 b i n d) = r0 (ix5 1 b i n d) := by
  unfold val_main_v38 val_main_v37
  pointwise
theorem v40_at : val_main_v40 (F := Ideal) r1 (ix4 b i n d) = r1 (ix5 0 b i n d) := by
  unfold val_main_v40 val_main_v39
  pointwise
theorem v42_at : val_main_v42 (F := Ideal) r1 (ix4 b i n d) = r1 (ix5 1 b i n d) := by
  unfold val_main_v42 val_main_v41
  pointwise
theorem v44_at : val_main_v44 (F := Ideal) e0 (ix3 b i n) = e0 (ix4 0 b i n) := by
  unfold val_main_v44 val_main_v43
  pointwise
theorem v46_at : val_main_v46 (F := Ideal) e0 (ix3 b i n) = e0 (ix4 1 b i n) := by
  unfold val_main_v46 val_main_v45
  pointwise

/-- The products with the keys. -/
theorem v47_at : val_main_v47 (F := Ideal) r1 r2 (ix4 b n i j) = ∑ x : Fin 96, r1 (ix5 0 b i n x) * r2 (ix4 b j n x) := by
  unfold val_main_v47
  generalize hy : val_main_v40 (F := Ideal) r1 = y
  pointwise
  subst hy
  simp only [v40_at]

/-- The products with the positions. -/
theorem v49_at (l : Fin 769) : val_main_v49 (F := Ideal) r1 r4 (ix4 b n i l) = ∑ x : Fin 96, r4 (ix3 l n x) * r1 (ix5 1 b i n x) := by
  unfold val_main_v49 val_main_v48
  generalize hy : val_main_v42 (F := Ideal) r1 = y
  pointwise
  subst hy
  simp only [v42_at]

/-- The products of a query with the keys, and with its positions. -/
def rac (j : Fin 640) : EReal := ∑ x : Fin 96, r1 (ix5 0 b i n x) * r2 (ix4 b j n x)
def rbd (j : Fin 640) : EReal := ∑ x : Fin 96, r1 (ix5 1 b i n x) * r4 (ix3 (rpos i j) n x)

/-- A query's scores. -/
def rscore : Fin 640 → EReal :=
  refScore ((Real.sqrt 96 : ℝ) : EReal) (rac r1 r2 b n i) (rbd r1 r4 b n i) (e0 (ix4 0 b i n)) (e0 (ix4 1 b i n)) (x2 (ix2 b n)) (x6 (ix1 n))

theorem ofBits_96 : Ideal.ofBits .f32 0x42C00000#32 = ((96 : ℝ) : EReal) := by
  rw [ofBits_f32]
  unfold Ideal.ieee
  have hn : (BitVec.extractLsb' (8 + 23) 1 0x42C00000#32 == 1#1) = false := by decide
  have hx : (BitVec.extractLsb' 23 8 0x42C00000#32).toNat = 133 := by decide
  have hf : (BitVec.extractLsb' 0 23 0x42C00000#32).toNat = 4194304 := by decide
  simp only [hn, hx, hf]
  rw [if_neg (by omega), if_neg (by omega)]
  refine EReal.coe_eq_coe_iff.mpr ?_
  have hz : (2 : ℝ) ^ (((133 : ℕ) : ℤ) - (2 ^ (8 - 1) - 1) - ((23 : ℕ) : ℤ)) = ((2 : ℝ) ^ (17 : ℕ))⁻¹ := by
    rw [← zpow_natCast, ← zpow_neg]
    exact congrArg _ (by norm_num)
  rw [hz]
  norm_num

theorem sqrt_96 : Ideal.sqrt (Ideal.ofBits .f32 0x42C00000#32) = ((Real.sqrt 96 : ℝ) : EReal) := by
  rw [ofBits_96]
  show (if (96 : ℝ) < 0 then ⊥ else ((Real.sqrt 96 : ℝ) : EReal)) = _
  rw [if_neg (by norm_num)]

theorem v76_eq : val_main_v76 (F := Ideal) = fun _ => ((Real.sqrt 96 : ℝ) : EReal) := by
  funext y
  unfold val_main_v76 val_main_cst_10
  pointwise
  exact sqrt_96

theorem v78_at : val_main_v78 (F := Ideal) x2 x6 r1 r2 r4 e0 (ix4 b n i j) = rscore x2 x6 r1 r2 r4 e0 b n i j := by
  have h1 : val_main_v47 (F := Ideal) r1 r2 (ix4 b n i j) = rac r1 r2 b n i j := v47_at ..
  have h2 : val_main_v60 (F := Ideal) r1 r4 (ix4 b n i j) = rbd r1 r4 b n i j := by
    rw [v60_at, v49_at]
    exact Finset.sum_congr rfl fun x _ => mul_comm _ _
  have h3 := v44_at e0 b n i
  have h4 := v46_at e0 b n i
  unfold val_main_v78 val_main_v77 val_main_v75 val_main_v74 val_main_v73 val_main_v72 val_main_v71 val_main_v70 val_main_v69 val_main_v68
    val_main_v67 val_main_v66 val_main_v65 val_main_v64 val_main_v63 val_main_v62 val_main_v61
  rw [v76_eq]
  unfold rscore refScore
  revert h1 h2 h3 h4
  generalize val_main_v47 (F := Ideal) r1 r2 = a1
  generalize val_main_v60 (F := Ideal) r1 r4 = a2
  generalize val_main_v44 (F := Ideal) e0 = a3
  generalize val_main_v46 (F := Ideal) e0 = a4
  intro h1 h2 h3 h4
  pointwise
  rw [h1, h2, h3, h4]

theorem v79_at : val_main_v79 (F := Ideal) x2 x6 r1 r2 r4 e0 (ix3 b n i) = top (rscore x2 x6 r1 r2 r4 e0 b n i) := by
  have h := v78_at x2 x6 r1 r2 r4 e0 b n i
  unfold val_main_v79 val_main_cst_11
  revert h
  generalize val_main_v78 (F := Ideal) x2 x6 r1 r2 r4 e0 = a
  intro h
  pointwise
  simp only [h]
  rw [ofBits_neg_inf]
  rfl

/-- A query's weights. -/
def rweight (j : Fin 640) : EReal := Ideal.exp (rscore x2 x6 r1 r2 r4 e0 b n i j - top (rscore x2 x6 r1 r2 r4 e0 b n i))

theorem v83_at : val_main_v83 (F := Ideal) x2 x6 r1 r2 r4 e0 (ix4 b n i j) = rweight x2 x6 r1 r2 r4 e0 b n i j := by
  have h := v78_at x2 x6 r1 r2 r4 e0 b n i j
  have h' := v79_at x2 x6 r1 r2 r4 e0 b n i
  unfold val_main_v83 val_main_v82 val_main_v81 val_main_v80 rweight
  revert h h'
  generalize val_main_v78 (F := Ideal) x2 x6 r1 r2 r4 e0 = a
  generalize val_main_v79 (F := Ideal) x2 x6 r1 r2 r4 e0 = a'
  intro h h'
  pointwise
  rw [h, h']

theorem v90_at : val_main_v90 (F := Ideal) x2 x6 r1 r2 r4 e0 (ix4 b n i j)
    = rweight x2 x6 r1 r2 r4 e0 b n i j * Ideal.div 1 (∑ j, rweight x2 x6 r1 r2 r4 e0 b n i j) := by
  have h := v83_at x2 x6 r1 r2 r4 e0 b n i
  unfold val_main_v90 val_main_v89 val_main_v88 val_main_v87 val_main_v86 val_main_cst_13 val_main_v85 val_main_v84 val_main_cst_12
  revert h
  generalize val_main_v83 (F := Ideal) x2 x6 r1 r2 r4 e0 = a
  intro h
  pointwise
  simp only [h]

theorem v91_at : val_main_v92 (F := Ideal) x2 x6 r1 r2 r3 r4 e0 (ix4 b i n d)
    = ∑ j : Fin 640, r3 (ix4 b j n d) * (rweight x2 x6 r1 r2 r4 e0 b n i j * Ideal.div 1 (∑ j, rweight x2 x6 r1 r2 r4 e0 b n i j)) := by
  have h := v90_at x2 x6 r1 r2 r4 e0 b n i
  unfold val_main_v92 val_main_v91
  revert h
  generalize val_main_v90 (F := Ideal) x2 x6 r1 r2 r4 e0 = a
  intro h
  pointwise
  simp only [h]

theorem v95_at : val_main_v95 (F := Ideal) x2 x4 x6 r1 r2 r3 r4 e0 (ix4 b i n d)
    = refRow ((Real.sqrt 96 : ℝ) : EReal) (rac r1 r2 b n i) (rbd r1 r4 b n i) (e0 (ix4 0 b i n)) (e0 (ix4 1 b i n)) (x2 (ix2 b n)) (x6 (ix1 n))
      (x4 (ix2 b n)) (fun j => r3 (ix4 b j n d)) := by
  have h := v91_at x2 x6 r1 r2 r3 r4 e0 b n i d
  unfold val_main_v95 val_main_v94 val_main_v93 refRow
  revert h
  generalize val_main_v92 (F := Ideal) x2 x6 r1 r2 r3 r4 e0 = a
  intro h
  pointwise
  rw [h]
  simp only [rweight, rscore, zero_add]

/-- The context: a row's 1152 channels are the twelve heads' 96. -/
theorem v97_at (e : Fin 1152) : val_main_v97 (F := Ideal) x2 x4 x6 r1 r2 r3 r4 e0 (ix3 b i e)
    = val_main_v95 (F := Ideal) x2 x4 x6 r1 r2 r3 r4 e0 (ix4 b i ⟨e.val / 96, by omega⟩ ⟨e.val % 96, by omega⟩) := by
  unfold val_main_v97 val_main_v96
  generalize val_main_v95 (F := Ideal) x2 x4 x6 r1 r2 r3 r4 e0 = a
  pointwise

theorem v98_at : val_main_v98 (F := Ideal) r0 (ix4 b n d i) = r0 (ix5 0 b i n d) := by
  unfold val_main_v98 val_main_v36 val_main_v35
  pointwise
theorem v101_at : val_main_v101 (F := Ideal) r0 (ix4 b n d i) = r0 (ix5 1 b i n d) := by
  unfold val_main_v101 val_main_v38 val_main_v37
  pointwise
theorem v100_at (g : Fin 3) (h : Fin 4) : val_main_v100 (F := Ideal) e0 (ix4 b g h i) = e0 (ix4 0 b i ⟨4 * g.val + h.val, by omega⟩) := by
  unfold val_main_v100 val_main_v99 val_main_v44 val_main_v43
  pointwise
  exact congrArg (fun n => e0 (ix4 0 b i n)) (Fin.ext (show g.val * 4 + h.val = 4 * g.val + h.val by omega))
theorem v103_at (g : Fin 3) (h : Fin 4) : val_main_v103 (F := Ideal) e0 (ix4 b g h i) = e0 (ix4 1 b i ⟨4 * g.val + h.val, by omega⟩) := by
  unfold val_main_v103 val_main_v102 val_main_v46 val_main_v45
  pointwise
  exact congrArg (fun n => e0 (ix4 1 b i n)) (Fin.ext (show g.val * 4 + h.val = 4 * g.val + h.val by omega))

end Cert.Proof.Ref

end
-- ==== Proof.RefQuant.lean ====
/- The reference before its casts: the biased rows, their scales, and what goes into the casts, read at an index. -/
module

public import proofs.«01_k».proof.Proof.Gen.ReferenceIdeal.Run
public import proofs.«01_k».proof.Proof.HeadRead
public import proofs.«01_k».proof.Proof.Attn
public import Idealize.ShloMosaic.Lib.Claim
public import Idealize.ShloMosaic.Lib.Pipeline.ValueKit

@[expose] public section

noncomputable section

namespace Cert.Proof.Ref

open Idealize.ShloMosaic Idealize.ShloMosaic.TcCoe Idealize.SL.Sem Idealize.ShloMosaic.StableHlo Cert.Proof Cert.ReferenceIdeal Cert.ReferenceIdeal.Gen

/-- The queries plus each of the two biases. -/
def rx (q : FVec Ideal S3x640x12x96 .bf16) (u w : FVec Ideal S12x96 .f32) :
    FVec Ideal S2x3x640x12x96 .f32 :=
  addf (broadcastInDim S2x3x640x12x96 ![0, 1, 2, 3, 4] bcast_S1x3x640x12x96_S2x3x640x12x96_0_1_2_3_4 (broadcastInDim S1x3x640x12x96 ![1, 2, 3, 4] bcast_S3x640x12x96_S1x3x640x12x96_1_2_3_4 (extf .f32 q bitsLt_bf16_f32))) (broadcastInDim S2x3x640x12x96 ![0, 1, 2, 3, 4] bcast_S2x1x1x12x96_S2x3x640x12x96_0_1_2_3_4 (broadcastInDim S2x1x1x12x96 ![0, 3, 4] bcast_S2x12x96_S2x1x1x12x96_0_3_4 (concatenate S2x12x96 0 [⟨S1x12x96, (broadcastInDim S1x12x96 ![1, 2] bcast_S12x96_S1x12x96_1_2 u)⟩, ⟨S1x12x96, (broadcastInDim S1x12x96 ![1, 2] bcast_S12x96_S1x12x96_1_2 w)⟩] concatenates_S1x12x96_S1x12x96_S2x12x96_d0)))

/-- Each row's largest magnitude over 448. -/
def ry (x : FVec Ideal S2x3x640x12x96 .f32) : FVec Ideal S2x3x640x12 .f32 :=
  mulf (Host.reduce FloatOps.maximumf (Host.absf x) (constant S_ .f32 0xFF800000#32) reducesTo_S2x3x640x12x96_S2x3x640x12_d4 h_S_) (broadcastInDim S2x3x640x12 ![] bcast_S_S2x3x640x12 (constant S_ .f32 0x3B124925#32))

/-- The exponent of a row's scale. -/
def re (y : FVec Ideal S2x3x640x12 .f32) : FVec Ideal S2x3x640x12 .f32 :=
  select (andi (cmpf .oge y (broadcastInDim S2x3x640x12 ![] bcast_S_S2x3x640x12 (constant S_ .f32 0x00800000#32))) (cmpf .olt y (broadcastInDim S2x3x640x12 ![] bcast_S_S2x3x640x12 (constant S_ .f32 0x7B800000#32)))) (addf (Host.floor (Host.divf (Host.log y) (broadcastInDim S2x3x640x12 ![] bcast_S_S2x3x640x12 (Host.log (constant S_ .f32 0x40000000#32))))) (broadcastInDim S2x3x640x12 ![] bcast_S_S2x3x640x12 (constant S_ .f32 0x3F800000#32))) (broadcastInDim S2x3x640x12 ![] bcast_S_S2x3x640x12 (id (constant S_ .f32 0x00000000#32 : FVec Ideal S_ .f32)))

/-- The scales, and the rows times their inverse scales. -/
def rscl (e : FVec Ideal S2x3x640x12 .f32) : FVec Ideal S2x3x640x12 .f32 :=
  Host.powf (broadcastInDim S2x3x640x12 ![] bcast_S_S2x3x640x12 (constant S_ .f32 0x40000000#32)) e
def rscaled (x : FVec Ideal S2x3x640x12x96 .f32) (e : FVec Ideal S2x3x640x12 .f32) :
    FVec Ideal S2x3x640x12x96 .f32 :=
  mulf x (broadcastInDim S2x3x640x12x96 ![0, 1, 2, 3, 4] bcast_S2x3x640x12x1_S2x3x640x12x96_0_1_2_3_4 (broadcastInDim S2x3x640x12x1 ![0, 1, 2, 3] bcast_S2x3x640x12_S2x3x640x12x1_0_1_2_3 (Host.powf (broadcastInDim S2x3x640x12 ![] bcast_S_S2x3x640x12 (constant S_ .f32 0x40000000#32)) (Host.negf e))))

/-- A largest magnitude over the last of five axes. -/
theorem max_last {n0 n1 n2 n3 n4 : Nat} (h : (⟨5, ![n0, n1, n2, n3, n4]⟩ : Shape).ReducesTo [4] ⟨4, ![n0, n1, n2, n3]⟩)
    (x : FVec Ideal ⟨5, ![n0, n1, n2, n3, n4]⟩ .f32) (z : FVec Ideal S_ .f32) (hz : ∀ k, z k = ⊥) (a : Fin n0) (b : Fin n1) (c : Fin n2) (d : Fin n3) :
    Host.reduce FloatOps.maximumf (Host.absf x) z h h_S_ (ix4 a b c d) = top fun k => max (x (ix5 a b c d k)) (-(x (ix5 a b c d k))) := by
  have e : ∀ y : FVec Ideal ⟨5, ![n0, n1, n2, n3, n4]⟩ .f32,
      Host.reduce FloatOps.maximumf y z h h_S_ (ix4 a b c d) = Finset.fold max ⊥ (fun k => y (ix5 a b c d k)) Finset.univ := by
    intro y
    pointwise
    rw [hz]
  rw [e]
  rfl

/-- The quotient, the magnitudes' largest given. -/
theorem quot_of (y : FVec Ideal S2x3x640x12 .f32) (j : S2x3x640x12.Idx) :
    mulf y (broadcastInDim S2x3x640x12 ![] bcast_S_S2x3x640x12 (constant S_ .f32 0x3B124925#32)) j = y j * Ideal.ofBits .f32 0x3B124925#32 := by
  pointwise

theorem ry_at (x) (s : Fin 2) (b : Fin 3) (n : Fin 12) (i : Fin 640) : ry x (ix4 s b i n) = quotient fun d => x (ix5 s b i n d) := by
  unfold ry quotient
  rw [quot_of]
  rw [max_last reducesTo_S2x3x640x12x96_S2x3x640x12_d4 x (constant S_ .f32 0xFF800000#32) (fun _ => ofBits_neg_inf) s b i n]

variable (m : (ℓ : Loc nD τ sig) → Buf (Elt Ideal) ℓ) (c : Dev nD)

/-- The reference's rows. -/
def rows : FVec Ideal S2x3x640x12x96 .f32 :=
  rx (m ((c.tc : Thread nD τ).loc main_arg0)) (m ((c.tc : Thread nD τ).loc main_arg7)) (m ((c.tc : Thread nD τ).loc main_arg8))

theorem exit_scales : Value.exitV m c (Proc.devRef .tc main_v27) = rscl (re (ry (rows m c))) := Value.exit_main_v27 m c

set_option maxRecDepth 8192 in
set_option maxHeartbeats 2000000 in
theorem entry_scaled : V m c main_v33 = rscaled (rows m c) (re (ry (rows m c))) := by
  unfold rows rscaled re ry rx
  show Gen.V0 m c (Proc.devRef .tc main_v33) = _
  simp only [Gen.V0, Gen.hostOps0, Gen.hostOps0_1, Gen.hostOps0_2, TRef.ternary, TRef.unary, TRef.toBuf, TRef.ofBuf, cast_eq, List.flatten_cons, List.flatten_nil, List.append_nil, List.cons_append, List.nil_append]
  after_results_simp <;> rfl

variable (s : Fin 2) (b : Fin 3) (n : Fin 12) (i : Fin 640) (d : Fin 96)

theorem rx_0 (q u w) : rx q u w (ix5 0 b i n d) = q (ix4 b i n d) + u (ix2 n d) := by
  unfold rx
  pointwise

theorem rx_1 (q u w) : rx q u w (ix5 1 b i n d) = q (ix4 b i n d) + w (ix2 n d) := by
  unfold rx
  pointwise

theorem ofBits_two : Ideal.ofBits .f32 0x40000000#32 = 2 := by
  rw [ofBits_field 128 _ (by decide), fieldPow_eq (by omega) (by omega)]
  norm_num
  rfl

theorem ofBool_and (p q : Prop) [Decidable p] [Decidable q] :
    IntOp.andi (BitVec.ofBool (decide p)) (BitVec.ofBool (decide q)) = BitVec.ofBool (decide (p ∧ q)) := by
  by_cases hp : p <;> by_cases hq : q <;> simp [hp, hq] <;> rfl

theorem select_ofBool (p : Prop) [Decidable p] (x y : EReal) : Scalar.select (BitVec.ofBool (decide p)) x y = if p then x else y := by
  by_cases hp : p <;> simp [hp] <;> rfl

theorem re_at (y) : re y (ix4 s b i n) = scaleExp (y (ix4 s b i n)) := by
  have hz : ∀ k, id (constant S_ .f32 0x00000000#32 : FVec Ideal S_ .f32) k = 0 := fun k => by
    show Ideal.ofBits .f32 0x00000000#32 = 0
    pointwise
  unfold re scaleExp InRange
  pointwise
  rw [ofBool_and, select_ofBool, hz, ofBits_two]
  congr

theorem rscl_at (e) : rscl e (ix4 s b i n) = Ideal.pow 2 (e (ix4 s b i n)) := by
  unfold rscl
  pointwise
  rw [ofBits_two]

theorem rscaled_at (x e) : rscaled x e (ix5 s b i n d) = x (ix5 s b i n d) * Ideal.pow 2 (-(e (ix4 s b i n))) := by
  unfold rscaled
  pointwise
  rw [ofBits_two]

end Cert.Proof.Ref

end
-- ==== Proof.RefCast.lean ====
/- What the reference's casts leave. -/
module

public import proofs.«01_k».proof.Proof.RefQuant
public import Idealize.ShloMosaic.Lib.Pipeline.ReadBack

@[expose] public section

noncomputable section

namespace Cert.Proof.Ref

open Idealize.ShloMosaic Idealize.ShloMosaic.TcCoe Idealize.SL.Sem Cert.Proof Cert.ReferenceIdeal Cert.ReferenceIdeal.Gen

variable (m : (ℓ : Loc nD τ sig) → Buf (Elt Ideal) ℓ) (c : Dev nD)

/-- The windows are the whole arrays. -/
theorem idx0 (t : Fin cfg0.N) : win0_0.index t = ![0, 0, 0, 0, 0] := (by decide +kernel : ∀ t : Fin grid0.N, win0_0.index t = ![0, 0, 0, 0, 0]) t

theorem blk0 (t : Fin cfg0.N) (s : Fin 2) (b : Fin 3) (i : Fin 640) (n : Fin 12) (d : Fin 96) :
    iblk m c 0 t (ix5 s b i n d) = rscaled (rows m c) (re (ry (rows m c))) (ix5 s b i n d) := by
  generalize hX : rscaled (rows m c) (re (ry (rows m c))) = X
  have e : (win0_0.blk t).view.emb (ix5 s b i n d) = ix5 s b i n d := by blk_ext [idx0 t]
  have h : V m c (Pipeline.arrRef spec0 0) = X := (entry_scaled m c).trans hX
  unfold iblk
  generalize V m c (Pipeline.arrRef spec0 0) = Y at h ⊢
  rw [View.read_apply]
  subst h
  rw [show ((cfg0.win 0).blk t).view.emb (ix5 s b i n d) = ix5 s b i n d from e]
  rw [cast_eq]

theorem idx1 (t : Fin cfg0.N) : win0_1.index t = ![0, 0, 0, 0] := (by decide +kernel : ∀ t : Fin grid0.N, win0_1.index t = ![0, 0, 0, 0]) t
theorem idx2 (t : Fin cfg0.N) : win0_2.index t = ![0, 0, 0, 0] := (by decide +kernel : ∀ t : Fin grid0.N, win0_2.index t = ![0, 0, 0, 0]) t
theorem idx3 (t : Fin cfg0.N) : win0_3.index t = ![0, 0, 0] := (by decide +kernel : ∀ t : Fin grid0.N, win0_3.index t = ![0, 0, 0]) t

theorem blk1 (t : Fin cfg0.N) (b : Fin 3) (i : Fin 640) (n : Fin 12) (d : Fin 96) :
    iblk m c 1 t (ix4 b i n d) = m ((c.tc : Thread nD τ).loc main_arg1) (ix4 b i n d) := by
  have e : (win0_1.blk t).view.emb (ix4 b i n d) = ix4 b i n d := by blk_ext [idx1 t]
  unfold iblk
  blk_simp
  rw [e, V_main_arg1]

theorem blk2 (t : Fin cfg0.N) (b : Fin 3) (i : Fin 640) (n : Fin 12) (d : Fin 96) :
    iblk m c 2 t (ix4 b i n d) = m ((c.tc : Thread nD τ).loc main_arg3) (ix4 b i n d) := by
  have e : (win0_2.blk t).view.emb (ix4 b i n d) = ix4 b i n d := by blk_ext [idx2 t]
  unfold iblk
  blk_simp
  rw [e, V_main_arg3]

theorem blk3 (t : Fin cfg0.N) (l : Fin 769) (n : Fin 12) (d : Fin 96) :
    iblk m c 3 t (ix3 l n d) = m ((c.tc : Thread nD τ).loc main_arg5) (ix3 l n d) := by
  have e : (win0_3.blk t).view.emb (ix3 l n d) = ix3 l n d := by blk_ext [idx3 t]
  unfold iblk
  blk_simp
  rw [e, V_main_arg5]

/-- What each cast stores. -/
theorem pay2_at (x : FVec Ideal S2x3x640x12x96 .f32) (s : Fin 2) (b : Fin 3) (i : Fin 640) (n : Fin 12) (d : Fin 96) :
    k0_pay2 (F := Ideal) x (ix5 s b i n d) = min (Ideal.ofBits .f32 0x43E00000#32) (max (Ideal.ofBits .f32 0xC3E00000#32) (x (ix5 s b i n d))) := by
  unfold k0_pay2
  pointwise

theorem pay3_at (x : FVec Ideal S2x3x640x12x96 .fp8e4m3) (s : Fin 2) (b : Fin 3) (i : Fin 640) (n : Fin 12) (d : Fin 96) :
    k0_pay3 (F := Ideal) x (ix5 s b i n d) = x (ix5 s b i n d) := by
  unfold k0_pay3
  pointwise

theorem pay4_at (x : FVec Ideal S3x640x12x96 .fp8e4m3) (y : S3x640x12x96.Idx) : k0_pay4 (F := Ideal) x y = x y := rfl
theorem pay5_at (x : FVec Ideal S3x640x12x96 .fp8e4m3) (y : S3x640x12x96.Idx) : k0_pay5 (F := Ideal) x y = x y := rfl
theorem pay1_at (x : FVec Ideal S769x12x96 .fp8e4m3) (y : S769x12x96.Idx) : k0_pay1 (F := Ideal) x y = x y := rfl

theorem cast0 : Value.reg_main_v34_0 m c = k0_pay2 (iblk m c 0 t0_0) := by
  unfold Value.reg_main_v34_0
  refine (dats m 0 c).arrAt_eq_of_after_last 4 t0_0 (by decide +kernel) _ fun j => ?_
  blk_simp
  rw [after0_4]
  unfold outsAt0
  dsimp only
  frame_out
  rw [read_unread_whole]

theorem cast1 : Value.reg_main_v34_1 m c = k0_pay3 (k0_pay2 (iblk m c 0 t0_0)) := by
  unfold Value.reg_main_v34_1
  refine (dats m 0 c).arrAt_eq_of_after_last 5 t0_0 (by decide +kernel) _ fun j => ?_
  blk_simp
  rw [after0_5]
  unfold outsAt0
  dsimp only
  frame_out
  rw [read_unread_whole]

theorem cast2 : Value.reg_main_v34_2 m c = k0_pay4 (iblk m c 1 t0_0) := by
  unfold Value.reg_main_v34_2
  refine (dats m 0 c).arrAt_eq_of_after_last 6 t0_0 (by decide +kernel) _ fun j => ?_
  blk_simp
  rw [after0_6]
  unfold outsAt0
  dsimp only
  frame_out
  rw [read_unread_whole]

theorem cast3 : Value.reg_main_v34_3 m c = k0_pay5 (iblk m c 2 t0_0) := by
  unfold Value.reg_main_v34_3
  refine (dats m 0 c).arrAt_eq_of_after_last 7 t0_0 (by decide +kernel) _ fun j => ?_
  blk_simp
  rw [after0_7]
  unfold outsAt0
  dsimp only
  frame_out
  rw [read_unread_whole]

theorem cast4 : Value.reg_main_v34_4 m c = k0_pay1 (iblk m c 3 t0_0) := by
  unfold Value.reg_main_v34_4
  refine (dats m 0 c).arrAt_eq_of_after_last 8 t0_0 (by decide +kernel) _ fun j => ?_
  blk_simp
  rw [after0_8]
  unfold outsAt0
  dsimp only
  frame_out
  rw [read_unread_whole]

/-- What the casts leave, entry by entry. -/
theorem cast0_at (s : Fin 2) (b : Fin 3) (i : Fin 640) (n : Fin 12) (d : Fin 96) :
    Value.reg_main_v34_0 m c (ix5 s b i n d) = rowCode (fun d => rows m c (ix5 s b i n d)) d := by
  rw [cast0]
  refine (pay2_at _ s b i n d).trans ?_
  rw [blk0, rscaled_at, re_at, ry_at]
  rfl

theorem cast1_at (s : Fin 2) (b : Fin 3) (i : Fin 640) (n : Fin 12) (d : Fin 96) :
    Value.reg_main_v34_1 m c (ix5 s b i n d) = rowCode (fun d => rows m c (ix5 s b i n d)) d := by
  rw [cast1]
  refine (pay3_at _ s b i n d).trans ?_
  rw [← cast0]
  exact cast0_at m c s b i n d

theorem cast2_at (b : Fin 3) (i : Fin 640) (n : Fin 12) (d : Fin 96) :
    Value.reg_main_v34_2 m c (ix4 b i n d) = m ((c.tc : Thread nD τ).loc main_arg1) (ix4 b i n d) := by
  rw [cast2]
  exact (pay4_at _ _).trans (blk1 m c t0_0 b i n d)

theorem cast3_at (b : Fin 3) (i : Fin 640) (n : Fin 12) (d : Fin 96) :
    Value.reg_main_v34_3 m c (ix4 b i n d) = m ((c.tc : Thread nD τ).loc main_arg3) (ix4 b i n d) := by
  rw [cast3]
  exact (pay5_at _ _).trans (blk2 m c t0_0 b i n d)

theorem cast4_at (l : Fin 769) (n : Fin 12) (d : Fin 96) :
    Value.reg_main_v34_4 m c (ix3 l n d) = m ((c.tc : Thread nD τ).loc main_arg5) (ix3 l n d) := by
  rw [cast4]
  exact (pay1_at _ _).trans (blk3 m c t0_0 l n d)

/-- The scales, entry by entry. -/
theorem scales_at (s : Fin 2) (b : Fin 3) (i : Fin 640) (n : Fin 12) :
    Value.exitV m c (Proc.devRef .tc main_v27) (ix4 s b i n) = rowScl (fun d => rows m c (ix5 s b i n d)) := by
  rw [exit_scales, rscl_at, re_at, ry_at]
  rfl

end Cert.Proof.Ref

end
-- ==== Proof.RefOut.lean ====
/- The reference's results, as functions of its arguments. -/
module

public import proofs.«01_k».proof.Proof.KerOut
public import proofs.«01_k».proof.Proof.RefPost
public import proofs.«01_k».proof.Proof.RefCast

@[expose] public section

noncomputable section

namespace Cert.Proof.Ref

open Idealize.ShloMosaic Idealize.ShloMosaic.TcCoe Idealize.SL.Sem Cert.Proof Cert.ReferenceIdeal Cert.ReferenceIdeal.Gen Cert.ReferenceIdeal.Read

section Of

variable (x2 x4 : (⟨S3x12, .f32⟩ : BufTy).Contents (Elt Ideal)) (x6 : (⟨S12, .f32⟩ : BufTy).Contents (Elt Ideal))
  (r0 : (⟨S2x3x640x12x96, .fp8e4m3⟩ : BufTy).Contents (Elt Ideal)) (r1 : (⟨S2x3x640x12x96, .f32⟩ : BufTy).Contents (Elt Ideal))
  (r2 : (⟨S3x640x12x96, .f32⟩ : BufTy).Contents (Elt Ideal)) (r3 : (⟨S3x640x12x96, .bf16⟩ : BufTy).Contents (Elt Ideal))
  (r4 : (⟨S769x12x96, .f32⟩ : BufTy).Contents (Elt Ideal)) (e0 : (⟨S2x3x640x12, .f32⟩ : BufTy).Contents (Elt Ideal))
  (A : Args)

theorem ctx_of (h2 : ∀ b n, x2 (ix2 b n) = A.ks b n) (h4 : ∀ b n, x4 (ix2 b n) = A.vs b n) (h6 : ∀ n, x6 (ix1 n) = A.ps n)
    (hu : ∀ b i n d, r1 (ix5 0 b i n d) = rowCode (A.xu b n i) d) (hw : ∀ b i n d, r1 (ix5 1 b i n d) = rowCode (A.xw b n i) d)
    (hk : ∀ b i n d, r2 (ix4 b i n d) = A.k b i n d) (hv : ∀ b i n d, r3 (ix4 b i n d) = A.v b i n d)
    (hp : ∀ l n d, r4 (ix3 l n d) = A.p l n d)
    (su : ∀ b i n, e0 (ix4 0 b i n) = rowScl (A.xu b n i)) (sw : ∀ b i n, e0 (ix4 1 b i n) = rowScl (A.xw b n i)) :
    val_main_v97 (F := Ideal) x2 x4 x6 r1 r2 r3 r4 e0 = ctxOut A := by
  funext y
  obtain ⟨b, i, e, rfl⟩ : ∃ (b : Fin 3) (i : Fin 640) (e : Fin 1152), y = ix3 b i e := ⟨y 0, y 1, y 2, eq_ix3 y⟩
  rw [v97_at, v95_at]
  have hac : rac r1 r2 b ⟨e.val / 96, by omega⟩ i
      = fun j => ∑ x : Fin 96, rowCode (A.xu b ⟨e.val / 96, by omega⟩ i) x * A.k b j ⟨e.val / 96, by omega⟩ x := by
    funext j
    unfold rac
    exact Finset.sum_congr rfl fun x _ => by rw [hu, hk]
  have hbd : rbd r1 r4 b ⟨e.val / 96, by omega⟩ i
      = fun j => ∑ x : Fin 96, rowCode (A.xw b ⟨e.val / 96, by omega⟩ i) x * A.p (Args.pos i j) ⟨e.val / 96, by omega⟩ x := by
    funext j
    unfold rbd
    exact Finset.sum_congr rfl fun x _ => by rw [hw, hp]; rfl
  rw [hac, hbd, su, sw, h2, h4, h6]
  simp only [hv]
  rfl

theorem codes_of_u (x : Fin 3 → Fin 12 → Fin 640 → Fin 96 → EReal) (h : ∀ b i n d, r0 (ix5 0 b i n d) = rowCode (x b n i) d) :
    val_main_v98 (F := Ideal) r0 = codesOut x := by
  funext y
  obtain ⟨b, n, d, i, rfl⟩ : ∃ (b : Fin 3) (n : Fin 12) (d : Fin 96) (i : Fin 640), y = ix4 b n d i := ⟨y 0, y 1, y 2, y 3, eq_ix4 y⟩
  rw [v98_at, h]
  rfl

theorem codes_of_w (x : Fin 3 → Fin 12 → Fin 640 → Fin 96 → EReal) (h : ∀ b i n d, r0 (ix5 1 b i n d) = rowCode (x b n i) d) :
    val_main_v101 (F := Ideal) r0 = codesOut x := by
  funext y
  obtain ⟨b, n, d, i, rfl⟩ : ∃ (b : Fin 3) (n : Fin 12) (d : Fin 96) (i : Fin 640), y = ix4 b n d i := ⟨y 0, y 1, y 2, y 3, eq_ix4 y⟩
  rw [v101_at, h]
  rfl

theorem scales_of_u (x : Fin 3 → Fin 12 → Fin 640 → Fin 96 → EReal) (h : ∀ b i n, e0 (ix4 0 b i n) = rowScl (x b n i)) :
    val_main_v100 (F := Ideal) e0 = sclsOut x := by
  funext y
  obtain ⟨b, g, k, i, rfl⟩ : ∃ (b : Fin 3) (g : Fin 3) (k : Fin 4) (i : Fin 640), y = ix4 b g k i := ⟨y 0, y 1, y 2, y 3, eq_ix4 y⟩
  rw [v100_at, h]
  rfl

theorem scales_of_w (x : Fin 3 → Fin 12 → Fin 640 → Fin 96 → EReal) (h : ∀ b i n, e0 (ix4 1 b i n) = rowScl (x b n i)) :
    val_main_v103 (F := Ideal) e0 = sclsOut x := by
  funext y
  obtain ⟨b, g, k, i, rfl⟩ : ∃ (b : Fin 3) (g : Fin 3) (k : Fin 4) (i : Fin 640), y = ix4 b g k i := ⟨y 0, y 1, y 2, y 3, eq_ix4 y⟩
  rw [v103_at, h]
  rfl

end Of

variable (m : (ℓ : Loc nD τ sig) → Buf (Elt Ideal) ℓ) (c : Dev nD)

/-- The reference's arguments. -/
def rArgs : Args where
  q := fun b i n d => m ((c.tc : Thread nD τ).loc main_arg0) (ix4 b i n d)
  k := fun b i n d => m ((c.tc : Thread nD τ).loc main_arg1) (ix4 b i n d)
  ks := fun b n => m ((c.tc : Thread nD τ).loc main_arg2) (ix2 b n)
  v := fun b i n d => m ((c.tc : Thread nD τ).loc main_arg3) (ix4 b i n d)
  vs := fun b n => m ((c.tc : Thread nD τ).loc main_arg4) (ix2 b n)
  p := fun l n d => m ((c.tc : Thread nD τ).loc main_arg5) (ix3 l n d)
  ps := fun n => m ((c.tc : Thread nD τ).loc main_arg6) (ix1 n)
  u := fun n d => m ((c.tc : Thread nD τ).loc main_arg7) (ix2 n d)
  w := fun n d => m ((c.tc : Thread nD τ).loc main_arg8) (ix2 n d)

theorem rows_u (b : Fin 3) (i : Fin 640) (n : Fin 12) : (fun d => rows m c (ix5 0 b i n d)) = (rArgs m c).xu b n i := by
  funext d
  exact rx_0 b n i d _ _ _

theorem rows_w (b : Fin 3) (i : Fin 640) (n : Fin 12) : (fun d => rows m c (ix5 1 b i n d)) = (rArgs m c).xw b n i := by
  funext d
  exact rx_1 b n i d _ _ _

theorem ref_v97 : val_main_v97 (F := Ideal) (Value.exitV m c (Proc.devRef .tc main_arg2)) (Value.exitV m c (Proc.devRef .tc main_arg4))
      (Value.exitV m c (Proc.devRef .tc main_arg6)) (Value.exitV m c (Proc.devRef .tc main_v34_1)) (Value.exitV m c (Proc.devRef .tc main_v34_2))
      (Value.exitV m c (Proc.devRef .tc main_v34_3)) (Value.exitV m c (Proc.devRef .tc main_v34_4)) (Value.exitV m c (Proc.devRef .tc main_v27))
    = ctxOut (rArgs m c) := by
  refine ctx_of _ _ _ _ _ _ _ _ (rArgs m c) ?_ ?_ ?_ ?_ ?_ ?_ ?_ ?_ ?_ ?_
  · exact fun b n => congrFun (Value.exit_main_arg2 m c) _
  · exact fun b n => congrFun (Value.exit_main_arg4 m c) _
  · exact fun n => congrFun (Value.exit_main_arg6 m c) _
  · exact fun b i n d => (congrFun (Value.exit_main_v34_1 m c) _).trans ((cast1_at m c 0 b i n d).trans (congrFun (congrArg rowCode (rows_u m c b i n)) d))
  · exact fun b i n d => (congrFun (Value.exit_main_v34_1 m c) _).trans ((cast1_at m c 1 b i n d).trans (congrFun (congrArg rowCode (rows_w m c b i n)) d))
  · exact fun b i n d => (congrFun (Value.exit_main_v34_2 m c) _).trans (cast2_at m c b i n d)
  · exact fun b i n d => (congrFun (Value.exit_main_v34_3 m c) _).trans (cast3_at m c b i n d)
  · exact fun l n d => (congrFun (Value.exit_main_v34_4 m c) _).trans (cast4_at m c l n d)
  · exact fun b i n => (scales_at m c 0 b i n).trans (congrArg rowScl (rows_u m c b i n))
  · exact fun b i n => (scales_at m c 1 b i n).trans (congrArg rowScl (rows_w m c b i n))

theorem ref_v98 : val_main_v98 (F := Ideal) (Value.exitV m c (Proc.devRef .tc main_v34_0)) = codesOut (rArgs m c).xu :=
  codes_of_u _ _ fun b i n d => (congrFun (Value.exit_main_v34_0 m c) _).trans ((cast0_at m c 0 b i n d).trans (congrFun (congrArg rowCode (rows_u m c b i n)) d))

theorem ref_v101 : val_main_v101 (F := Ideal) (Value.exitV m c (Proc.devRef .tc main_v34_0)) = codesOut (rArgs m c).xw :=
  codes_of_w _ _ fun b i n d => (congrFun (Value.exit_main_v34_0 m c) _).trans ((cast0_at m c 1 b i n d).trans (congrFun (congrArg rowCode (rows_w m c b i n)) d))

theorem ref_v100 : val_main_v100 (F := Ideal) (Value.exitV m c (Proc.devRef .tc main_v27)) = sclsOut (rArgs m c).xu :=
  scales_of_u _ _ fun b i n => (scales_at m c 0 b i n).trans (congrArg rowScl (rows_u m c b i n))

theorem ref_v103 : val_main_v103 (F := Ideal) (Value.exitV m c (Proc.devRef .tc main_v27)) = sclsOut (rArgs m c).xw :=
  scales_of_w _ _ fun b i n => (scales_at m c 1 b i n).trans (congrArg rowScl (rows_w m c b i n))

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.KerOut
public import proofs.«01_k».proof.Proof.RefOut
public import Idealize.ShloMosaic.Adequacy
public import Idealize.ShloMosaic.Init

@[expose] public section

noncomputable section

namespace Cert.Proof

open Idealize.ShloMosaic Idealize.SL.Sem Cert.Kernel

/-- Two records of arguments with equal parts are equal. -/
theorem args_eq {A B : Args} (h0 : A.q = B.q) (h1 : A.k = B.k) (h2 : A.ks = B.ks) (h3 : A.v = B.v) (h4 : A.vs = B.vs)
    (h5 : A.p = B.p) (h6 : A.ps = B.ps) (h7 : A.u = B.u) (h8 : A.w = B.w) : A = B := by
  cases A
  cases B
  dsimp only at h0 h1 h2 h3 h4 h5 h6 h7 h8
  subst h0 h1 h2 h3 h4 h5 h6 h7 h8
  rfl

/-- The kernel's five results are the reference's. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => ctxOut (kArgs m c), fun c => codesOut (kArgs m c).xu, fun c => sclsOut (kArgs m c).xu,
    fun c => codesOut (kArgs m c).xw, fun c => sclsOut (kArgs m c).xw, ?_, ?_⟩
  · refine (θ_run (Cert.KernelIdeal.defs (F := Ideal)) _ _).mono (fun r h c => ?_) (Cert.KernelIdeal.Value.run_blocks m g)
    obtain ⟨r0, r1, r2, r3, r4, rest⟩ := h c
    exact ⟨r0.trans (kernel_out9 m c), r1.trans (kernel_out10 m c), r2.trans (kernel_out11 m c), r3.trans (kernel_out12 m c),
      r4.trans (kernel_out13 m c), rest⟩
  · refine (θ_run (Cert.ReferenceIdeal.defs (F := Ideal)) _ _).mono (fun r h c => ?_) (Cert.ReferenceIdeal.Value.run m' g')
    obtain ⟨r0, r1, r2, r3, r4, rest⟩ := h c
    have hA : Ref.rArgs m' c = kArgs m c := by
      obtain ⟨h0, h1, h2, h3, h4, h5, h6, h7, h8⟩ := hargs c
      refine args_eq ?_ ?_ ?_ ?_ ?_ ?_ ?_ ?_ ?_
      · exact funext fun b => funext fun n => funext fun i => funext fun d => congrFun h0 _
      · exact funext fun b => funext fun n => funext fun i => funext fun d => congrFun h1 _
      · exact funext fun b => funext fun n => congrFun h2 _
      · exact funext fun b => funext fun n => funext fun i => funext fun d => congrFun h3 _
      · exact funext fun b => funext fun n => congrFun h4 _
      · exact funext fun l => funext fun n => funext fun d => congrFun h5 _
      · exact funext fun n => congrFun h6 _
      · exact funext fun n => funext fun d => congrFun h7 _
      · exact funext fun n => funext fun d => congrFun h8 _
    refine ⟨r0.trans ?_, r1.trans ?_, r2.trans ?_, r3.trans ?_, r4.trans ?_, rest⟩
    · exact (Cert.ReferenceIdeal.Read.val_main_v97_eq _).trans ((Ref.ref_v97 m' c).trans (congrArg ctxOut hA))
    · exact (Cert.ReferenceIdeal.Read.val_main_v98_eq _).trans ((Ref.ref_v98 m' c).trans (congrArg (fun A : Args => codesOut A.xu) hA))
    · exact (Cert.ReferenceIdeal.Read.val_main_v100_eq _).trans ((Ref.ref_v100 m' c).trans (congrArg (fun A : Args => sclsOut A.xu) hA))
    · exact (Cert.ReferenceIdeal.Read.val_main_v101_eq _).trans ((Ref.ref_v101 m' c).trans (congrArg (fun A : Args => codesOut A.xw) hA))
    · exact (Cert.ReferenceIdeal.Read.val_main_v103_eq _).trans ((Ref.ref_v103 m' c).trans (congrArg (fun A : Args => sclsOut A.xw) hA))

theorem claim : Cert.Claim := ⟨Cert.Kernel.Gen.facts, Cert.KernelIdeal.Gen.facts, Cert.ReferenceIdeal.Gen.facts, by
  refine ⟨fun m ρ _ => Cert.Kernel.Gen.frame m ρ, fun m ρ _ => Cert.KernelIdeal.Gen.frame m ρ,
    fun m ρ _ => Cert.ReferenceIdeal.Gen.frame m ρ, ?_, algebraic⟩
  exact IdealRules.named_const.statement Cert.KernelIdeal.κ "log2e_scale" .f32 0x3E16C740#32
    ((((Real.log 2) * (Real.sqrt 96))⁻¹ : ℝ) : EReal) rfl⟩

end Cert.Proof

end
